-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_LogSumExpIdeal (m : (ℓ : Loc Cert.LogSumExpIdeal.nD Cert.LogSumExpIdeal.τ Cert.LogSumExpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_LogSumExpIdeal [hLogSumExpIdeal : Cert.LogSumExpIdeal.Facts] : Prop :=
  ∀ (m : (ℓ : Loc Cert.LogSumExpIdeal.nD Cert.LogSumExpIdeal.τ Cert.LogSumExpIdeal.sig) → Buf (Elt Ideal) ℓ) (g : Dev Cert.LogSumExpIdeal.nD → PrngReg), Pre_LogSumExpIdeal m →
    θ_run (Cert.LogSumExpIdeal.defs (F := Ideal)) (onTc (τ := Cert.LogSumExpIdeal.τ) (Cert.LogSumExpIdeal.main (F := Ideal))) ⟨m, fun _ => 0, g⟩ (fun r => (∀ c : Dev Cert.LogSumExpIdeal.nD,
      r.2.mem ((c.tc : Thread Cert.LogSumExpIdeal.nD Cert.LogSumExpIdeal.τ).loc Cert.LogSumExpIdeal.main_arg0) = m ((c.tc : Thread Cert.LogSumExpIdeal.nD Cert.LogSumExpIdeal.τ).loc Cert.LogSumExpIdeal.main_arg0)
      ∧ r.2.mem ((c.tc : Thread Cert.LogSumExpIdeal.nD Cert.LogSumExpIdeal.τ).loc Cert.LogSumExpIdeal.main_arg1) = m ((c.tc : Thread Cert.LogSumExpIdeal.nD Cert.LogSumExpIdeal.τ).loc Cert.LogSumExpIdeal.main_arg1)
      ∧ r.2.mem ((c.tc : Thread Cert.LogSumExpIdeal.nD Cert.LogSumExpIdeal.τ).loc Cert.LogSumExpIdeal.main_arg2) = m ((c.tc : Thread Cert.LogSumExpIdeal.nD Cert.LogSumExpIdeal.τ).loc Cert.LogSumExpIdeal.main_arg2)
      ∧ r.2.mem ((c.tc : Thread Cert.LogSumExpIdeal.nD Cert.LogSumExpIdeal.τ).loc Cert.LogSumExpIdeal.main_arg3) = m ((c.tc : Thread Cert.LogSumExpIdeal.nD Cert.LogSumExpIdeal.τ).loc Cert.LogSumExpIdeal.main_arg3))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_LogSumExpIdeal [hKernelIdeal : Cert.KernelIdeal.Facts] [hLogSumExpIdeal : Cert.LogSumExpIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.LogSumExpIdeal.nD Cert.LogSumExpIdeal.τ Cert.LogSumExpIdeal.sig) → Buf (Elt Ideal) ℓ) (g' : Dev Cert.LogSumExpIdeal.nD → PrngReg), Pre_KernelIdeal m →
    (∀ c : Dev Cert.KernelIdeal.nD,
      m' ((c.tc : Thread Cert.LogSumExpIdeal.nD Cert.LogSumExpIdeal.τ).loc Cert.LogSumExpIdeal.main_arg0) = m ((c.tc : Thread Cert.KernelIdeal.nD Cert.KernelIdeal.τ).loc Cert.KernelIdeal.main_arg0)
      ∧ m' ((c.tc : Thread Cert.LogSumExpIdeal.nD Cert.LogSumExpIdeal.τ).loc Cert.LogSumExpIdeal.main_arg1) = m ((c.tc : Thread Cert.KernelIdeal.nD Cert.KernelIdeal.τ).loc Cert.KernelIdeal.main_arg1)
      ∧ m' ((c.tc : Thread Cert.LogSumExpIdeal.nD Cert.LogSumExpIdeal.τ).loc Cert.LogSumExpIdeal.main_arg2) = m ((c.tc : Thread Cert.KernelIdeal.nD Cert.KernelIdeal.τ).loc Cert.KernelIdeal.main_arg2)
      ∧ m' ((c.tc : Thread Cert.LogSumExpIdeal.nD Cert.LogSumExpIdeal.τ).loc Cert.LogSumExpIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.LogSumExpIdeal.defs (F := Ideal)) (onTc (τ := Cert.LogSumExpIdeal.τ) (Cert.LogSumExpIdeal.main (F := Ideal))) ⟨m', fun _ => 0, g'⟩ (fun r => ∀ c : Dev Cert.LogSumExpIdeal.nD,
          r.2.mem ((c.tc : Thread Cert.LogSumExpIdeal.nD Cert.LogSumExpIdeal.τ).loc Cert.LogSumExpIdeal.main_v19) = v0 c
          ∧ r.2.mem ((c.tc : Thread Cert.LogSumExpIdeal.nD Cert.LogSumExpIdeal.τ).loc Cert.LogSumExpIdeal.main_arg0) = m' ((c.tc : Thread Cert.LogSumExpIdeal.nD Cert.LogSumExpIdeal.τ).loc Cert.LogSumExpIdeal.main_arg0)
          ∧ r.2.mem ((c.tc : Thread Cert.LogSumExpIdeal.nD Cert.LogSumExpIdeal.τ).loc Cert.LogSumExpIdeal.main_arg1) = m' ((c.tc : Thread Cert.LogSumExpIdeal.nD Cert.LogSumExpIdeal.τ).loc Cert.LogSumExpIdeal.main_arg1)
          ∧ r.2.mem ((c.tc : Thread Cert.LogSumExpIdeal.nD Cert.LogSumExpIdeal.τ).loc Cert.LogSumExpIdeal.main_arg2) = m' ((c.tc : Thread Cert.LogSumExpIdeal.nD Cert.LogSumExpIdeal.τ).loc Cert.LogSumExpIdeal.main_arg2)
          ∧ r.2.mem ((c.tc : Thread Cert.LogSumExpIdeal.nD Cert.LogSumExpIdeal.τ).loc Cert.LogSumExpIdeal.main_arg3) = m' ((c.tc : Thread Cert.LogSumExpIdeal.nD Cert.LogSumExpIdeal.τ).loc Cert.LogSumExpIdeal.main_arg3))

def Claim : Prop :=
  ∃ (hKernel : Cert.Kernel.Facts) (hKernelIdeal : Cert.KernelIdeal.Facts) (hReferenceIdeal : Cert.ReferenceIdeal.Facts) (hLogSumExpIdeal : Cert.LogSumExpIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ quiescent_LogSumExpIdeal (hLogSumExpIdeal := hLogSumExpIdeal)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
    ∧ algebraic_KernelIdeal_LogSumExpIdeal (hKernelIdeal := hKernelIdeal) (hLogSumExpIdeal := hLogSumExpIdeal)
-- ==== Pre_finite_in_range.lean ====
abbrev S4096x20 : Shape := ⟨2, ![4096, 20]⟩
abbrev S100000x32 : Shape := ⟨2, ![100000, 32]⟩
abbrev S100000 : Shape := ⟨1, ![100000]⟩
abbrev S_ : Shape := ⟨0, ![]⟩

class Facts : Prop where
  bcast_S_S4096x20 : S_.BroadcastsInDim S4096x20 (![] : Fin 0 → Fin S4096x20.rank)
  bcast_S_S100000x32 : S_.BroadcastsInDim S100000x32 (![] : Fin 0 → Fin S100000x32.rank)
  bcast_S_S100000 : S_.BroadcastsInDim S100000 (![] : Fin 0 → Fin S100000.rank)

variable [Facts]

def fn {F : FTy → Type} [FloatOps F] (main_arg0 : IVec S4096x20 32) (main_arg1 : FVec F S100000x32 .f32) (main_arg2 : FVec F S100000x32 .f32) (main_arg3 : FVec F S100000 .f32) : IVec S4096x20 1 × IVec S100000x32 1 × IVec S100000x32 1 × IVec S100000 1 :=
  let main_c : IVec S_ 32 := constantI S_ 32 0#32
  let main_v0 : IVec S4096x20 32 := broadcastInDim S4096x20 ![] bcast_S_S4096x20 main_c
  let main_v1 : IVec S4096x20 1 := cmpi .sge main_arg0 main_v0
  let main_c_0 : IVec S_ 32 := constantI S_ 32 100000#32
  let main_v2 : IVec S4096x20 32 := broadcastInDim S4096x20 ![] bcast_S_S4096x20 main_c_0
  let main_v3 : IVec S4096x20 1 := cmpi .slt main_arg0 main_v2
  let main_v4 : IVec S4096x20 1 := andi main_v1 main_v3
  let main_v5 : FVec F S100000x32 .f32 := Host.absf main_arg1
  let main_cst : FVec F S_ .f32 := constant S_ .f32 0x7F800000#32
  let main_v6 : FVec F S100000x32 .f32 := broadcastInDim S100000x32 ![] bcast_S_S100000x32 main_cst
  let main_v7 : IVec S100000x32 1 := cmpf .olt main_v5 main_v6
  let main_v8 : FVec F S100000x32 .f32 := Host.absf main_arg2
  let main_cst_1 : FVec F S_ .f32 := constant S_ .f32 0x7F800000#32
  let main_v9 : FVec F S100000x32 .f32 := broadcastInDim S100000x32 ![] bcast_S_S100000x32 main_cst_1
  let main_v10 : IVec S100000x32 1 := cmpf .olt main_v8 main_v9
  let main_v11 : FVec F S100000 .f32 := Host.absf main_arg3
  let main_cst_2 : FVec F S_ .f32 := constant S_ .f32 0x7F800000#32
  let main_v12 : FVec F S100000 .f32 := broadcastInDim S100000 ![] bcast_S_S100000 main_cst_2
  let main_v13 : IVec S100000 1 := cmpf .olt main_v11 main_v12
  (main_v4, main_v7, main_v10, main_v13)
-- ==== Kernel.lean ====
abbrev S4096x20 : Shape := ⟨2, ![4096, 20]⟩
abbrev S100000x32 : Shape := ⟨2, ![100000, 32]⟩
abbrev S100000 : Shape := ⟨1, ![100000]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x32 : Shape := ⟨3, ![4096, 20, 32]⟩
abbrev S4096x32 : Shape := ⟨2, ![4096, 32]⟩
abbrev S100352x32 : Shape := ⟨2, ![100352, 32]⟩
abbrev S32x100352 : Shape := ⟨2, ![32, 100352]⟩
abbrev S100352 : Shape := ⟨1, ![100352]⟩
abbrev S1x100352 : Shape := ⟨2, ![1, 100352]⟩
abbrev S4096x100000 : Shape := ⟨2, ![4096, 100000]⟩
abbrev S1024x32 : Shape := ⟨2, ![1024, 32]⟩
abbrev S32x2048 : Shape := ⟨2, ![32, 2048]⟩
abbrev S1x2048 : Shape := ⟨2, ![1, 2048]⟩
abbrev S1024x2048 : Shape := ⟨2, ![1024, 2048]⟩
abbrev S1024x1 : Shape := ⟨2, ![1024, 1]⟩
abbrev S1024 : Shape := ⟨1, ![1024]⟩

abbrev nBuf : Space → Nat
  | .hbm => 42
  | .vmem => 10
  | .smem => 0
  | _ => 0

abbrev bufTy : (tb : Table) → Fin (tcTables nBuf tb) → BufTy
  | .hbm, ⟨0, _⟩ => ⟨S4096x20, .i32⟩
  | .hbm, ⟨1, _⟩ => ⟨S100000x32, .f32⟩
  | .hbm, ⟨2, _⟩ => ⟨S100000x32, .f32⟩
  | .hbm, ⟨3, _⟩ => ⟨S100000, .f32⟩
  | .hbm, ⟨4, _⟩ => ⟨S_, .i32⟩
  | .hbm, ⟨5, _⟩ => ⟨S4096x20, .i32⟩
  | .hbm, ⟨6, _⟩ => ⟨S4096x20, .i1⟩
  | .hbm, ⟨7, _⟩ => ⟨S_, .i32⟩
  | .hbm, ⟨8, _⟩ => ⟨S4096x20, .i32⟩
  | .hbm, ⟨9, _⟩ => ⟨S4096x20, .i32⟩
  | .hbm, ⟨10, _⟩ => ⟨S4096x20, .i32⟩
  | .hbm, ⟨11, _⟩ => ⟨S4096x20x1, .i32⟩
  | .hbm, ⟨12, _⟩ => ⟨S1, .i32⟩
  | .hbm, ⟨13, _⟩ => ⟨S_, .i32⟩
  | .hbm, ⟨14, _⟩ => ⟨S4096x20x1, .i32⟩
  | .hbm, ⟨15, _⟩ => ⟨S4096x20x1, .i1⟩
  | .hbm, ⟨16, _⟩ => ⟨S1x1x1, .i32⟩
  | .hbm, ⟨17, _⟩ => ⟨S4096x20x1, .i32⟩
  | .hbm, ⟨18, _⟩ => ⟨S4096x20x1, .i1⟩
  | .hbm, ⟨19, _⟩ => ⟨S4096x20x1, .i1⟩
  | .hbm, ⟨20, _⟩ => ⟨S_, .i1⟩
  | .hbm, ⟨21, _⟩ => ⟨S4096x20, .i1⟩
  | .hbm, ⟨22, _⟩ => ⟨S4096x20x32, .f32⟩
  | .hbm, ⟨23, _⟩ => ⟨S4096x20x32, .i1⟩
  | .hbm, ⟨24, _⟩ => ⟨S_, .f32⟩
  | .hbm, ⟨25, _⟩ => ⟨S4096x20x32, .f32⟩
  | .hbm, ⟨26, _⟩ => ⟨S4096x20x32, .f32⟩
  | .hbm, ⟨27, _⟩ => ⟨S_, .f32⟩
  | .hbm, ⟨28, _⟩ => ⟨S4096x32, .f32⟩
  | .hbm, ⟨29, _⟩ => ⟨S_, .f32⟩
  | .hbm, ⟨30, _⟩ => ⟨S4096x32, .f32⟩
  | .hbm, ⟨31, _⟩ => ⟨S4096x32, .f32⟩
  | .hbm, ⟨32, _⟩ => ⟨S_, .i32⟩
  | .hbm, ⟨33, _⟩ => ⟨S_, .f32⟩
  | .hbm, ⟨34, _⟩ => ⟨S100352x32, .f32⟩
  | .hbm, ⟨35, _⟩ => ⟨S32x100352, .f32⟩
  | .hbm, ⟨36, _⟩ => ⟨S32x100352, .bf16⟩
  | .hbm, ⟨37, _⟩ => ⟨S_, .f32⟩
  | .hbm, ⟨38, _⟩ => ⟨S_, .f32⟩
  | .hbm, ⟨39, _⟩ => ⟨S100352, .f32⟩
  | .hbm, ⟨40, _⟩ => ⟨S1x100352, .f32⟩
  | .hbm, ⟨41, _⟩ => ⟨S4096x100000, .f32⟩
  | .local _ .vmem, ⟨0, _⟩ => ⟨S1024x32, .f32⟩
  | .local _ .vmem, ⟨1, _⟩ => ⟨S1024x32, .f32⟩
  | .local _ .vmem, ⟨2, _⟩ => ⟨S32x2048, .bf16⟩
  | .local _ .vmem, ⟨3, _⟩ => ⟨S32x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x1, .f32⟩
  | .local _ .vmem, ⟨9, _⟩ => ⟨S1024x1, .f32⟩
  | _, _ => ⟨S4096x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_call1_v0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_call2_v0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 49], ![false, false, false]⟩

def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg2 arg1
  let c0_i32 : BitVec 32 := 0#32
  ![arg0.toNat, v0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "neg" => some ⊥
  | _ => none
-- ==== ReferenceIdeal.lean ====
abbrev S4096x20 : Shape := ⟨2, ![4096, 20]⟩
abbrev S100000x32 : Shape := ⟨2, ![100000, 32]⟩
abbrev S100000 : Shape := ⟨1, ![100000]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x32 : Shape := ⟨3, ![4096, 20, 32]⟩
abbrev S4096x32 : Shape := ⟨2, ![4096, 32]⟩
abbrev S32x100000 : Shape := ⟨2, ![32, 100000]⟩
abbrev S4096x100000 : Shape := ⟨2, ![4096, 100000]⟩
abbrev S1x100000 : Shape := ⟨2, ![1, 100000]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S100000x32, .f32⟩
  | .hbm, ⟨2, _⟩ => ⟨S100000x32, .f32⟩
  | .hbm, ⟨3, _⟩ => ⟨S100000, .f32⟩
  | .hbm, ⟨4, _⟩ => ⟨S_, .i32⟩
  | .hbm, ⟨5, _⟩ => ⟨S4096x20, .i32⟩
  | .hbm, ⟨6, _⟩ => ⟨S4096x20, .i1⟩
  | .hbm, ⟨7, _⟩ => ⟨S_, .i32⟩
  | .hbm, ⟨8, _⟩ => ⟨S4096x20, .i32⟩
  | .hbm, ⟨9, _⟩ => ⟨S4096x20, .i32⟩
  | .hbm, ⟨10, _⟩ => ⟨S4096x20, .i32⟩
  | .hbm, ⟨11, _⟩ => ⟨S4096x20x1, .i32⟩
  | .hbm, ⟨12, _⟩ => ⟨S1, .i32⟩
  | .hbm, ⟨13, _⟩ => ⟨S_, .i32⟩
  | .hbm, ⟨14, _⟩ => ⟨S4096x20x1, .i32⟩
  | .hbm, ⟨15, _⟩ => ⟨S4096x20x1, .i1⟩
  | .hbm, ⟨16, _⟩ => ⟨S1x1x1, .i32⟩
  | .hbm, ⟨17, _⟩ => ⟨S4096x20x1, .i32⟩
  | .hbm, ⟨18, _⟩ => ⟨S4096x20x1, .i1⟩
  | .hbm, ⟨19, _⟩ => ⟨S4096x20x1, .i1⟩
  | .hbm, ⟨20, _⟩ => ⟨S_, .i1⟩
  | .hbm, ⟨21, _⟩ => ⟨S4096x20, .i1⟩
  | .hbm, ⟨22, _⟩ => ⟨S4096x20x32, .f32⟩
  | .hbm, ⟨23, _⟩ => ⟨S4096x20x32, .i1⟩
  | .hbm, ⟨24, _⟩ => ⟨S_, .f32⟩
  | .hbm, ⟨25, _⟩ => ⟨S4096x20x32, .f32⟩
  | .hbm, ⟨26, _⟩ => ⟨S4096x20x32, .f32⟩
  | .hbm, ⟨27, _⟩ => ⟨S_, .f32⟩
  | .hbm, ⟨28, _⟩ => ⟨S4096x32, .f32⟩
  | .hbm, ⟨29, _⟩ => ⟨S_, .f32⟩
  | .hbm, ⟨30, _⟩ => ⟨S4096x32, .f32⟩
  | .hbm, ⟨31, _⟩ => ⟨S4096x32, .f32⟩
  | .hbm, ⟨32, _⟩ => ⟨S32x100000, .f32⟩
  | .hbm, ⟨33, _⟩ => ⟨S4096x100000, .f32⟩
  | .hbm, ⟨34, _⟩ => ⟨S1x100000, .f32⟩
  | .hbm, ⟨35, _⟩ => ⟨S4096x100000, .f32⟩
  | .hbm, ⟨36, _⟩ => ⟨S4096x100000, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x100000, .f32⟩
  | .hbm, ⟨44, _⟩ => ⟨S4096x100000, .f32⟩
  | .hbm, ⟨45, _⟩ => ⟨S4096x100000, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1, .f32⟩
  | .hbm, ⟨50, _⟩ => ⟨S4096x100000, .f32⟩
  | .hbm, ⟨51, _⟩ => ⟨S4096x100000, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_call1_cst_0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_cst_1 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_v9 : Ref sig .tc := ⟨.hbm, 51, rfl⟩

abbrev nD : Nat := 1
abbrev τ : Topo := Topo.v7x

variable {F : FTy → Type} [FloatOps F]
-- ==== LogSumExpIdeal.lean ====
abbrev S4096x20 : Shape := ⟨2, ![4096, 20]⟩
abbrev S100000x32 : Shape := ⟨2, ![100000, 32]⟩
abbrev S100000 : Shape := ⟨1, ![100000]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x32 : Shape := ⟨3, ![4096, 20, 32]⟩
abbrev S4096x32 : Shape := ⟨2, ![4096, 32]⟩
abbrev S32x100000 : Shape := ⟨2, ![32, 100000]⟩
abbrev S4096x100000 : Shape := ⟨2, ![4096, 100000]⟩
abbrev S1x100000 : Shape := ⟨2, ![1, 100000]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S100000x32, .f32⟩
  | .hbm, ⟨2, _⟩ => ⟨S100000x32, .f32⟩
  | .hbm, ⟨3, _⟩ => ⟨S100000, .f32⟩
  | .hbm, ⟨4, _⟩ => ⟨S_, .i32⟩
  | .hbm, ⟨5, _⟩ => ⟨S4096x20, .i32⟩
  | .hbm, ⟨6, _⟩ => ⟨S4096x20, .i1⟩
  | .hbm, ⟨7, _⟩ => ⟨S_, .i32⟩
  | .hbm, ⟨8, _⟩ => ⟨S4096x20, .i32⟩
  | .hbm, ⟨9, _⟩ => ⟨S4096x20, .i32⟩
  | .hbm, ⟨10, _⟩ => ⟨S4096x20, .i32⟩
  | .hbm, ⟨11, _⟩ => ⟨S4096x20x1, .i32⟩
  | .hbm, ⟨12, _⟩ => ⟨S1, .i32⟩
  | .hbm, ⟨13, _⟩ => ⟨S_, .i32⟩
  | .hbm, ⟨14, _⟩ => ⟨S4096x20x1, .i32⟩
  | .hbm, ⟨15, _⟩ => ⟨S4096x20x1, .i1⟩
  | .hbm, ⟨16, _⟩ => ⟨S1x1x1, .i32⟩
  | .hbm, ⟨17, _⟩ => ⟨S4096x20x1, .i32⟩
  | .hbm, ⟨18, _⟩ => ⟨S4096x20x1, .i1⟩
  | .hbm, ⟨19, _⟩ => ⟨S4096x20x1, .i1⟩
  | .hbm, ⟨20, _⟩ => ⟨S_, .i1⟩
  | .hbm, ⟨21, _⟩ => ⟨S4096x20, .i1⟩
  | .hbm, ⟨22, _⟩ => ⟨S4096x20x32, .f32⟩
  | .hbm, ⟨23, _⟩ => ⟨S4096x20x32, .i1⟩
  | .hbm, ⟨24, _⟩ => ⟨S_, .f32⟩
  | .hbm, ⟨25, _⟩ => ⟨S4096x20x32, .f32⟩
  | .hbm, ⟨26, _⟩ => ⟨S4096x20x32, .f32⟩
  | .hbm, ⟨27, _⟩ => ⟨S_, .f32⟩
  | .hbm, ⟨28, _⟩ => ⟨S4096x32, .f32⟩
  | .hbm, ⟨29, _⟩ => ⟨S_, .f32⟩
  | .hbm, ⟨30, _⟩ => ⟨S4096x32, .f32⟩
  | .hbm, ⟨31, _⟩ => ⟨S4096x32, .f32⟩
  | .hbm, ⟨32, _⟩ => ⟨S32x100000, .f32⟩
  | .hbm, ⟨33, _⟩ => ⟨S4096x100000, .f32⟩
  | .hbm, ⟨34, _⟩ => ⟨S1x100000, .f32⟩
  | .hbm, ⟨35, _⟩ => ⟨S4096x100000, .f32⟩
  | .hbm, ⟨36, _⟩ => ⟨S4096x100000, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x100000, .f32⟩
  | .hbm, ⟨41, _⟩ => ⟨S4096x100000, .f32⟩
  | .hbm, ⟨42, _⟩ => ⟨S4096x100000, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x100000, .f32⟩
  | .hbm, ⟨49, _⟩ => ⟨S4096x100000, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩

abbrev nD : Nat := 1
abbrev τ : Topo := Topo.v7x

variable {F : FTy → Type} [FloatOps F]
-- ==== Proof.Cases.lean ====
/- What one run of the kernel body leaves behind, in each of the three situations the grid meets: the first tile of a
   row block (the running maximum and sum are reset, then updated), a later tile of the first sweep (updated), and a
   tile of the second sweep (a block of the result is written). Each theorem names the stored value as the body's own
   arithmetic applied to the three input blocks and to what the scratch held. -/
module

public import proofs.«01_k».proof.Proof.Gen.KernelIdeal.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable {F : FTy → Type} [FloatOps F] [Named F]

/-- The literal pair of zeros is the zero offset. -/
theorem offsets_zero : (![0, 0] : Fin 2 → Nat) = fun _ => 0 := funext fun a => by fin_cases a <;> rfl

/-- First tile: the maximum left behind is the update of the reset value. -/
theorem max_first (c : Dev nD) (i : grid0.Coords) (a3 : Memref sig .tc .vmem S1024x32 .f32) (h3 : a3.IsWhole)
    (a4 : Memref sig .tc .vmem S32x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x1 .f32) (h7 : a7.IsWhole)
    (a8 : Memref sig .tc .vmem S1024x1 .f32) (h8 : a8.IsWhole)
    (g0 : cond0_0 i) (g1 : cond0_1 i) (g2 : ¬cond0_2 i)
    (x0 : Vec F S1024x32 .f32) (x1 : Vec F S32x2048 .bf16) (x2 : Vec F S1x2048 .f32) :
    sout0_A_0 c i a3 h3 a4 h4 a5 h5 a6 h6 a7 h7 a8 h8 g0 g1 g2 x0 x1 x2 = k0_pay4 x0 x1 x2 k0_pay2 := by
  have hz := offsets_zero
  unfold sout0_A_0
  rw [View.read_writes_eq_canon _ _ _ (scover0_A_0 c i a3 h3 a4 h4 a5 h5 a6 h6 a7 h7 a8 h8 g0 g1 g2 x0 x1 x2)]
  unfold kernelRun0_A
  dsimp only
  sl_unfold_words
  rw [View.canon_cons_unit_zero (S := S1024x1) hz]
  simp only [View.readCov_unit_zero (S := S1024x1) _ hz]
  unfold k0_pay6
  simp only [View.readAt_eq_ld, h3.read_unread, h4.read_unread, h5.read_unread, h7.read_unread, h8.read_unread,
    View.ld_unit_zero (S := S1024x32) hz, View.ld_unit_zero (S := S32x2048) hz, View.ld_unit_zero (S := S1x2048) hz,
    View.ld_unit_zero (S := S1024x1) hz, shapeCast_self]

/-- First tile: the sum left behind is the update of the reset values. -/
theorem sum_first (c : Dev nD) (i : grid0.Coords) (a3 : Memref sig .tc .vmem S1024x32 .f32) (h3 : a3.IsWhole)
    (a4 : Memref sig .tc .vmem S32x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x1 .f32) (h7 : a7.IsWhole)
    (a8 : Memref sig .tc .vmem S1024x1 .f32) (h8 : a8.IsWhole)
    (g0 : cond0_0 i) (g1 : cond0_1 i) (g2 : ¬cond0_2 i)
    (x0 : Vec F S1024x32 .f32) (x1 : Vec F S32x2048 .bf16) (x2 : Vec F S1x2048 .f32) :
    sout0_A_1 c i a3 h3 a4 h4 a5 h5 a6 h6 a7 h7 a8 h8 g0 g1 g2 x0 x1 x2 = k0_pay5 x0 x1 x2 k0_pay2 k0_pay3 := by
  have hz := offsets_zero
  unfold sout0_A_1
  rw [View.read_writes_eq_canon _ _ _ (scover0_A_1 c i a3 h3 a4 h4 a5 h5 a6 h6 a7 h7 a8 h8 g0 g1 g2 x0 x1 x2)]
  unfold kernelRun0_A
  dsimp only
  sl_unfold_words
  rw [View.canon_cons_unit_zero (S := S1024x1) hz]
  simp only [View.readCov_unit_zero (S := S1024x1) _ hz]
  simp only [View.readAt_eq_ld, h3.read_unread, h4.read_unread, h5.read_unread, h7.read_unread, h8.read_unread,
    View.ld_unit_zero (S := S1024x32) hz, View.ld_unit_zero (S := S32x2048) hz, View.ld_unit_zero (S := S1x2048) hz,
    View.ld_unit_zero (S := S1024x1) hz, shapeCast_self]

/-- A later tile: the maximum left behind is the update of the one found. -/
theorem max_later (c : Dev nD) (i : grid0.Coords) (a3 : Memref sig .tc .vmem S1024x32 .f32) (h3 : a3.IsWhole)
    (a4 : Memref sig .tc .vmem S32x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x1 .f32) (h7 : a7.IsWhole)
    (a8 : Memref sig .tc .vmem S1024x1 .f32) (h8 : a8.IsWhole)
    (g0 : cond0_0 i) (g1 : ¬cond0_1 i) (g2 : ¬cond0_2 i)
    (x0 : Vec F S1024x32 .f32) (x1 : Vec F S32x2048 .bf16) (x2 : Vec F S1x2048 .f32)
    (xs0 : Vec F S1024x1 .f32) (xs1 : Vec F S1024x1 .f32) :
    sout0_B_0 c i a3 h3 a4 h4 a5 h5 a6 h6 a7 h7 a8 h8 g0 g1 g2 x0 x1 x2 xs0 xs1 = k0_pay4 x0 x1 x2 xs0 := by
  have hz := offsets_zero
  unfold sout0_B_0
  rw [View.read_writes_eq_canon _ _ _ (scover0_B_0 c i a3 h3 a4 h4 a5 h5 a6 h6 a7 h7 a8 h8 g0 g1 g2 x0 x1 x2 xs0 xs1)]
  unfold kernelRun0_B
  dsimp only
  rw [View.canon_unit_zero hz]
  unfold k0_pay6
  simp only [View.readAt_eq_ld, h3.read_unread, h4.read_unread, h5.read_unread, h7.read_unread, h8.read_unread,
    View.ld_unit_zero (S := S1024x32) hz, View.ld_unit_zero (S := S32x2048) hz, View.ld_unit_zero (S := S1x2048) hz,
    View.ld_unit_zero (S := S1024x1) hz, shapeCast_self]

/-- A later tile: the sum left behind is the update of the maximum and sum found. -/
theorem sum_later (c : Dev nD) (i : grid0.Coords) (a3 : Memref sig .tc .vmem S1024x32 .f32) (h3 : a3.IsWhole)
    (a4 : Memref sig .tc .vmem S32x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x1 .f32) (h7 : a7.IsWhole)
    (a8 : Memref sig .tc .vmem S1024x1 .f32) (h8 : a8.IsWhole)
    (g0 : cond0_0 i) (g1 : ¬cond0_1 i) (g2 : ¬cond0_2 i)
    (x0 : Vec F S1024x32 .f32) (x1 : Vec F S32x2048 .bf16) (x2 : Vec F S1x2048 .f32)
    (xs0 : Vec F S1024x1 .f32) (xs1 : Vec F S1024x1 .f32) :
    sout0_B_1 c i a3 h3 a4 h4 a5 h5 a6 h6 a7 h7 a8 h8 g0 g1 g2 x0 x1 x2 xs0 xs1 = k0_pay5 x0 x1 x2 xs0 xs1 := by
  have hz := offsets_zero
  unfold sout0_B_1
  rw [View.read_writes_eq_canon _ _ _ (scover0_B_1 c i a3 h3 a4 h4 a5 h5 a6 h6 a7 h7 a8 h8 g0 g1 g2 x0 x1 x2 xs0 xs1)]
  unfold kernelRun0_B
  dsimp only
  rw [View.canon_unit_zero hz]
  simp only [View.readAt_eq_ld, h3.read_unread, h4.read_unread, h5.read_unread, h7.read_unread, h8.read_unread,
    View.ld_unit_zero (S := S1024x32) hz, View.ld_unit_zero (S := S32x2048) hz, View.ld_unit_zero (S := S1x2048) hz,
    View.ld_unit_zero (S := S1024x1) hz, shapeCast_self]

/-- Second sweep: the block written is the logits minus (maximum + logarithm of the sum). -/
theorem block_written (c : Dev nD) (i : grid0.Coords) (a3 : Memref sig .tc .vmem S1024x32 .f32) (h3 : a3.IsWhole)
    (a4 : Memref sig .tc .vmem S32x2048 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x1 .f32) (h7 : a7.IsWhole)
    (a8 : Memref sig .tc .vmem S1024x1 .f32) (h8 : a8.IsWhole)
    (g0 : ¬cond0_0 i) (g2 : cond0_2 i)
    (x0 : Vec F S1024x32 .f32) (x1 : Vec F S32x2048 .bf16) (x2 : Vec F S1x2048 .f32)
    (xs0 : Vec F S1024x1 .f32) (xs1 : Vec F S1024x1 .f32) :
    out0_C_3 c i a3 h3 a4 h4 a5 h5 a6 h6 a7 h7 a8 h8 g0 g2 x0 x1 x2 xs0 xs1 = k0_pay7 x0 x1 x2 xs0 xs1 := by
  have hz := offsets_zero
  unfold out0_C_3
  rw [View.read_writes_eq_canon _ _ _ (cover0_C_3 c i a3 h3 a4 h4 a5 h5 a6 h6 a7 h7 a8 h8 g0 g2 x0 x1 x2 xs0 xs1)]
  unfold kernelRun0_C
  dsimp only
  rw [View.canon_unit_zero hz]
  simp only [View.readAt_eq_ld, h3.read_unread, h4.read_unread, h5.read_unread, h7.read_unread, h8.read_unread,
    View.ld_unit_zero (S := S1024x32) hz, View.ld_unit_zero (S := S32x2048) hz, View.ld_unit_zero (S := S1x2048) hz,
    View.ld_unit_zero (S := S1024x1) hz, shapeCast_self]

end Cert.KernelIdeal.Value

end
-- ==== Proof.HostValues.lean ====
/- What the kernel's launch finds in its three input arrays: the averaged embedding rows, the padded and transposed
   weights, and the padded bias, as terms of the four arguments. -/
module

public import proofs.«01_k».proof.Proof.Gen.KernelIdeal.Value
public import Idealize.ShloMosaic.Lib.StableHlo.Run
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem
open Idealize.ShloMosaic.StableHlo

variable {F : FTy → Type} [FloatOps F] [Named F]

/-- The row number an index names: a negative one counts from the end. -/
def rowNumber (ids : Vec F S4096x20 .i32) : Vec F S4096x20x1 .i32 :=
  broadcastInDim S4096x20x1 ![0, 1] bcast_S4096x20_S4096x20x1_0_1
    (select (cmpi .slt ids (broadcastInDim S4096x20 ![] bcast_S_S4096x20 (constantI S_ 32 0#32)))
      (addi ids (broadcastInDim S4096x20 ![] bcast_S_S4096x20 (constantI S_ 32 100000#32))) ids)

/-- Which row numbers lie in the table. -/
def inTable (ids : Vec F S4096x20 .i32) : Vec F S4096x20 .i1 :=
  Host.reduce IntOp.andi
    (andi (cmpi .sge (rowNumber (F := F) ids) (broadcastInDim S4096x20x1 ![] bcast_S_S4096x20x1 (constantI S_ 32 0#32)))
      (cmpi .sle (rowNumber (F := F) ids) (broadcastInDim S4096x20x1 ![0, 1, 2] bcast_S1x1x1_S4096x20x1_0_1_2
        (broadcastInDim S1x1x1 ![2] bcast_S1_S1x1x1_2 (constantI S1 32 99999#32)))))
    (constantI S_ 1 1#1) reducesTo_S4096x20x1_S4096x20_d2 h_S_

/-- The embedding rows taken from the table, a row outside it replaced by the not-a-number pattern. -/
def taken (ids : Vec F S4096x20 .i32) (table : Vec F S100000x32 .f32) : Vec F S4096x20x32 .f32 :=
  select (broadcastInDim S4096x20x32 ![0, 1] bcast_S4096x20_S4096x20x32_0_1 (inTable (F := F) ids))
    (Host.gather gather_S100000x32_S4096x20x1_S4096x20x32_2_0_n_n_0_2_132 table (rowNumber (F := F) ids))
    (broadcastInDim S4096x20x32 ![] bcast_S_S4096x20x32 (constant S_ .f32 0x7FC00000#32))

/-- The mean of the twenty embedding rows of each example. -/
def pooled (ids : Vec F S4096x20 .i32) (table : Vec F S100000x32 .f32) : Vec F S4096x32 .f32 :=
  Host.divf (Host.reduceAdd (taken ids table) (constant S_ .f32 0x00000000#32) reducesTo_S4096x20x32_S4096x32_d1 h_S_)
    (broadcastInDim S4096x32 ![] bcast_S_S4096x32 (constant S_ .f32 0x41A00000#32))

/-- The weights, padded with zeros to 100352 rows and transposed. -/
def weights (W : Vec F S100000x32 .f32) : Vec F S32x100352 .bf16 :=
  truncf .bf16 (transpose S32x100352 [1, 0]
    (pad S100352x32 ![0, 0] ![352, 0] ![0, 0] W (sitofp .f32 (constantI S_ 32 0#32)) pads_S100000x32_S100352x32_03520_000 h_S_)
    transposes_S100352x32_S32x100352_1_0) bitsLt_bf16_f32

/-- The bias, padded with `-∞` to 100352 entries, as one row. -/
def biases (b : Vec F S100000 .f32) : Vec F S1x100352 .f32 :=
  shapeCast S1x100352 (pad S100352 ![0] ![352] ![0] b (constant S_ .f32 0xFF800000#32) pads_S100000_S100352_03520 h_S_)
    shapeCasts_S100352_S1x100352

variable (m : (ℓ : Loc nD τ sig) → Buf (Elt F) ℓ)

set_option maxRecDepth 8192 in
set_option maxHeartbeats 2000000 in
/-- The first input array holds the averaged embedding rows. -/
theorem launch_pooled (c : Dev nD) :
    V m c main_v3 = pooled (m ((c : Thread nD τ).loc main_arg0)) (m ((c : Thread nD τ).loc main_arg1)) := by
  unfold V
  simp only [List.flatten, List.append_eq, List.cons_append, List.nil_append, List.append_nil, hostOps0, hostOps0_1, hostOps0_2, hostOps0_3, hostOps0_4, hostOps0_5, TRef.binary, TRef.nullary, TRef.ternary,
    TRef.unary, TRef.toBuf, TRef.ofBuf, cast_eq]
  after_results_simp <;> rfl

set_option maxRecDepth 8192 in
set_option maxHeartbeats 2000000 in
/-- The second holds the padded, transposed weights. -/
theorem launch_weights (c : Dev nD) : V m c main_v6 = weights (m ((c : Thread nD τ).loc main_arg2)) := by
  unfold V
  simp only [List.flatten, List.append_eq, List.cons_append, List.nil_append, List.append_nil, hostOps0, hostOps0_1, hostOps0_2, hostOps0_3, hostOps0_4, hostOps0_5, TRef.binary, TRef.nullary, TRef.ternary,
    TRef.unary, TRef.toBuf, TRef.ofBuf, cast_eq]
  after_results_simp <;> rfl

set_option maxRecDepth 8192 in
set_option maxHeartbeats 2000000 in
/-- The third holds the padded bias. -/
theorem launch_biases (c : Dev nD) : V m c main_v8 = biases (m ((c : Thread nD τ).loc main_arg3)) := by
  unfold V
  simp only [List.flatten, List.append_eq, List.cons_append, List.nil_append, List.append_nil, hostOps0, hostOps0_1, hostOps0_2, hostOps0_3, hostOps0_4, hostOps0_5, TRef.binary, TRef.nullary, TRef.ternary,
    TRef.unary, TRef.toBuf, TRef.ofBuf, cast_eq]
  after_results_simp <;> rfl

end Cert.KernelIdeal.Value

end
-- ==== Proof.Grid.lean ====
/- Where the grid stands at each of its 392 points, in order: the row block is `t / 98`, the sweep `t / 49 % 2`, the
   column tile `t % 49`. -/
module

public import proofs.«01_k».proof.Proof.Gen.KernelIdeal.Value

@[expose] public section

noncomputable section

namespace Cert.KernelIdeal.Value

open Cert.KernelIdeal Cert.KernelIdeal.Gen Idealize.ShloMosaic

/-- The averaged rows: block `(t / 98, 0)`. -/
theorem index_pooled : ∀ t : Fin grid0.N, win0_0.index t 0 = t.val / 98 ∧ win0_0.index t 1 = 0 := by decide +kernel

/-- The weights: block `(0, t % 49)`. -/
theorem index_weights : ∀ t : Fin grid0.N, win0_1.index t 0 = 0 ∧ win0_1.index t 1 = t.val % 49 := by decide +kernel

/-- The bias: block `(0, t % 49)`. -/
theorem index_biases : ∀ t : Fin grid0.N, win0_2.index t 0 = 0 ∧ win0_2.index t 1 = t.val % 49 := by decide +kernel

/-- The result, in the second sweep: block `(t / 98, t % 49)`. -/
theorem index_result : ∀ t : Fin grid0.N, t.val / 49 % 2 = 1 →
    win0_3.index t 0 = t.val / 98 ∧ win0_3.index t 1 = t.val % 49 := by decide +kernel

/-- A block of the result is written back exactly at the points of the second sweep. -/
theorem flush_iff : ∀ t : Fin grid0.N, win0_3.flush t = true ↔ t.val / 49 % 2 = 1 := by decide +kernel

/-- How many rows and columns of a block lie inside the result: all rows; all columns but for the last tile. -/
theorem extent_result : ∀ t : Fin grid0.N, t.val / 49 % 2 = 1 →
    win0_3.xsize (grid0.coords t) 0 = 1024 ∧
    win0_3.xsize (grid0.coords t) 1 = if t.val % 49 = 48 then 1696 else 2048 := by decide +kernel

end Cert.KernelIdeal.Value

end
-- ==== Proof.OnlineSoftmax.lean ====
/- The mathematics of a softmax normalizer that is built up tile by tile, over the extended reals.
   A row is a function of the column. `top x n` is the maximum of its first `n` entries and `total x n` is the sum of
   their exponentials taken relative to that maximum. The lemmas say how the pair for `n + q` columns comes out of the
   pair for `n` columns and the `q` columns that follow, with no condition on the entries: infinite ones are included. -/
module

public import Idealize.ShloMosaic.Lib.Pointwise

@[expose] public section

noncomputable section

namespace Cert.Proof

open Idealize.ShloMosaic

/-- An exponential is never negative. -/
theorem exp_nonneg (a : EReal) : 0 ≤ Ideal.exp a := by
  induction a with
  | bot => simp
  | top => simp
  | coe r => simpa using (Real.exp_pos r).le

/-- Moving one exponential from the reference point `p` to a larger one `q`: the factor is `exp (p - q)`. -/
theorem exp_shift {a p q : EReal} (hap : a ≤ p) (hpq : p ≤ q) :
    Ideal.exp (a - p) * Ideal.exp (p - q) = Ideal.exp (a - q) := by
  induction q with
  | top => simp
  | bot =>
    obtain rfl : p = ⊥ := le_bot_iff.mp hpq
    obtain rfl : a = ⊥ := le_bot_iff.mp hap
    simp
  | coe q =>
    induction p with
    | top => simp at hpq
    | bot =>
      obtain rfl : a = ⊥ := le_bot_iff.mp hap
      simp
    | coe p =>
      induction a with
      | top => simp at hap
      | bot => simp
      | coe a =>
        rw [← EReal.coe_sub, ← EReal.coe_sub, ← EReal.coe_sub]
        simp only [Ideal.exp_coe]
        rw [← EReal.coe_mul, ← Real.exp_add]
        congr 2
        ring

/-- The same for a finite sum of exponentials. -/
theorem sum_exp_shift {ι : Type*} (s : Finset ι) (x : ι → EReal) {p q : EReal} (hs : ∀ k ∈ s, x k ≤ p) (hpq : p ≤ q) :
    (∑ k ∈ s, Ideal.exp (x k - p)) * Ideal.exp (p - q) = ∑ k ∈ s, Ideal.exp (x k - q) := by
  classical
  induction s using Finset.induction_on with
  | empty => simp
  | insert a s ha ih =>
    rw [Finset.sum_insert ha, Finset.sum_insert ha,
      EReal.right_distrib_of_nonneg (exp_nonneg _) (Finset.sum_nonneg fun k _ => exp_nonneg _),
      exp_shift (hs a (Finset.mem_insert_self a s)) hpq,
      ih fun k hk => hs k (Finset.mem_insert_of_mem hk)]

/-- The maximum of the first `n` entries of a row. -/
def top (x : ℕ → EReal) (n : ℕ) : EReal := (Finset.range n).sup x

/-- The sum of the exponentials of the first `n` entries, relative to their maximum. -/
def total (x : ℕ → EReal) (n : ℕ) : EReal := ∑ k ∈ Finset.range n, Ideal.exp (x k - top x n)

/-- The maximum over no entries is minus infinity. -/
theorem top_zero (x : ℕ → EReal) : top x 0 = ⊥ := rfl

/-- The sum over no entries is zero. -/
theorem total_zero (x : ℕ → EReal) : total x 0 = 0 := by simp [total]

/-- A fold of `max` over all columns of a tile is the supremum over them. -/
theorem fold_max_eq_sup {ι : Type*} (s : Finset ι) (x : ι → EReal) : s.fold max ⊥ x = s.sup x := rfl

/-- The maximum over the first columns, written over the columns as a finite type. -/
theorem top_eq_univ (x : ℕ → EReal) (n : ℕ) : top x n = Finset.univ.sup fun k : Fin n => x k.val := by
  apply le_antisymm
  · exact Finset.sup_le fun k hk =>
      Finset.le_sup (f := fun k : Fin n => x k.val) (Finset.mem_univ ⟨k, Finset.mem_range.mp hk⟩)
  · exact Finset.sup_le fun k _ => Finset.le_sup (f := x) (Finset.mem_range.mpr k.isLt)

/-- The maximum after one more tile: the larger of the maximum so far and the tile's. -/
theorem top_add (x : ℕ → EReal) (n q : ℕ) :
    max (top x n) (Finset.univ.sup fun k : Fin q => x (n + k.val)) = top x (n + q) := by
  apply le_antisymm
  · refine max_le (Finset.sup_mono ?_) (Finset.sup_le fun k _ => Finset.le_sup (f := x) ?_)
    · exact Finset.range_subset_range.mpr (Nat.le_add_right n q)
    · exact Finset.mem_range.mpr (Nat.add_lt_add_left k.isLt n)
  · refine Finset.sup_le fun k hk => ?_
    by_cases h : k < n
    · exact le_max_of_le_left (Finset.le_sup (f := x) (Finset.mem_range.mpr h))
    · obtain ⟨d, rfl⟩ := Nat.exists_eq_add_of_le (Nat.le_of_not_lt h)
      have hd : d < q := Nat.lt_of_add_lt_add_left (Finset.mem_range.mp hk)
      exact le_max_of_le_right (Finset.le_sup (f := fun k : Fin q => x (n + k.val)) (Finset.mem_univ ⟨d, hd⟩))

/-- The sum after one more tile: the sum so far, moved to the new maximum, and the tile's exponentials. -/
theorem total_add (x : ℕ → EReal) (n q : ℕ) :
    total x n * Ideal.exp (top x n - top x (n + q)) + ∑ k : Fin q, Ideal.exp (x (n + k.val) - top x (n + q))
      = total x (n + q) := by
  have hle : top x n ≤ top x (n + q) := by rw [← top_add]; exact le_max_left _ _
  have hs : ∀ k ∈ Finset.range n, x k ≤ top x n := fun k hk => Finset.le_sup (f := x) hk
  unfold total
  rw [sum_exp_shift _ _ hs hle, Finset.sum_range_add,
    Finset.sum_range (fun k => Ideal.exp (x (n + k) - top x (n + q)))]

/-- Columns that hold `-∞` change neither the maximum … -/
theorem top_pad (x : ℕ → EReal) (n q : ℕ) (h : ∀ k, n ≤ k → x k = ⊥) : top x (n + q) = top x n := by
  rw [← top_add]
  exact max_eq_left (Finset.sup_le fun k _ => by rw [h _ (Nat.le_add_right _ _)]; exact bot_le)

/-- … nor the sum. -/
theorem total_pad (x : ℕ → EReal) (n q : ℕ) (h : ∀ k, n ≤ k → x k = ⊥) : total x (n + q) = total x n := by
  unfold total
  rw [top_pad x n q h, Finset.sum_range_add]
  have hz : ∑ k ∈ Finset.range q, Ideal.exp (x (n + k) - top x n) = 0 :=
    Finset.sum_eq_zero fun k _ => by rw [h _ (Nat.le_add_right _ _)]; simp
  rw [hz, add_zero]

/-- The sum written over the columns as a finite type. -/
theorem total_eq_univ (x : ℕ → EReal) (n : ℕ) :
    total x n = ∑ k : Fin n, Ideal.exp (x k.val - Finset.univ.sup fun k : Fin n => x k.val) := by
  unfold total
  rw [top_eq_univ, Finset.sum_range (fun k => Ideal.exp (x k - Finset.univ.sup fun k : Fin n => x k.val))]

/-- Subtracting the maximum and the logarithm one after the other is subtracting their sum, when the maximum is a
    real number. -/
theorem sub_sub_real (a l : EReal) (r : ℝ) : a - (r : EReal) - l = a - ((r : EReal) + l) := by
  rw [sub_eq_add_neg, sub_eq_add_neg, sub_eq_add_neg,
    EReal.neg_add (.inl (EReal.coe_ne_bot r)) (.inl (EReal.coe_ne_top r)), sub_eq_add_neg, add_assoc]

end Cert.Proof

end
-- ==== Proof.Patterns.lean ====
/- The number each float constant of the programs stands for. -/
module

public import Idealize.ShloMosaic.Lib.Pointwise

@[expose] public section

noncomputable section

namespace Cert.Proof

open Idealize.ShloMosaic

/-- The pattern of `-∞` is `-∞`. -/
theorem neg_inf_eq_bot : Ideal.ofBits .f32 0xFF800000#32 = ⊥ := by
  simp [Ideal.ofBits, Ideal.ieee]

/-- The pattern of `+∞` is `+∞`. -/
theorem pos_inf_eq_top : Ideal.ofBits .f32 0x7F800000#32 = ⊤ := by
  simp [Ideal.ofBits, Ideal.ieee]

/-- The divisor of the mean is 20. -/
theorem twenty_eq : Ideal.ofBits .f32 0x41A00000#32 = ((20 : ℝ) : EReal) := by
  simp [Ideal.ofBits, Ideal.ieee, -EReal.coe_mul]; norm_num

end Cert.Proof

end
-- ==== Proof.TilePoint.lean ====
/- The arithmetic of the kernel body read at one entry, over the extended reals: the block of logits, the updated
   maximum, the updated sum, and the block of results. -/
module

public import proofs.«01_k».proof.Proof.Gen.KernelIdeal.Skeleton
public import proofs.«01_k».proof.Proof.OnlineSoftmax
public import proofs.«01_k».proof.Proof.Patterns
public import Idealize.ShloMosaic.Lib.Pointwise

@[expose] public section

noncomputable section

namespace Cert.Proof

open Idealize.ShloMosaic Cert.KernelIdeal Cert.KernelIdeal.Gen

/-- The logit of local row `r` and local column `q`: an inner product over 32 features, plus the bias. -/
theorem logit_apply (p : Vec Ideal S1024x32 .f32) (w : Vec Ideal S32x2048 .bf16) (b : Vec Ideal S1x2048 .f32)
    (r : Fin 1024) (q : Fin 2048) :
    k0_pay1 p w b (ix2 r q) = (∑ k : Fin 32, p (ix2 r k) * w (ix2 k q)) + b (ix2 0 q) := by
  unfold k0_pay1
  pointwise

/-- The reset maximum is `-∞` in every row. -/
theorem reset_max_apply (r : Fin 1024) : k0_pay2 (F := Ideal) (ix2 r 0) = ⊥ := by
  unfold k0_pay2
  pointwise
  rfl

/-- The reset sum is zero in every row. -/
theorem reset_sum_apply (r : Fin 1024) : k0_pay3 (F := Ideal) (ix2 r 0) = 0 := by
  unfold k0_pay3
  pointwise

/-- The maximum over the columns of a block, for a block of any size. -/
theorem rowMax_apply {m n : ℕ} (h : Shape.Reduces ⟨2, ![m, n]⟩ [1] ⟨1, ![m]⟩) (v : FVec Ideal ⟨2, ![m, n]⟩ .f32)
    (r : Fin m) :
    multiReduction .maximumf [1] ⟨1, ![m]⟩ v 0xFF800000#32 h (.inl rfl) rfl (ix1 r)
      = Finset.univ.sup fun q : Fin n => v (ix2 r q) := by
  pointwise
  rw [neg_inf_eq_bot, fold_max_eq_sup]

/-- The updated maximum of a row: the larger of the one found and the tile's. -/
theorem max_apply (p : Vec Ideal S1024x32 .f32) (w : Vec Ideal S32x2048 .bf16) (b : Vec Ideal S1x2048 .f32)
    (u : Vec Ideal S1024x1 .f32) (r : Fin 1024) :
    k0_pay4 p w b u (ix2 r 0) = max (u (ix2 r 0)) (Finset.univ.sup fun q : Fin 2048 => k0_pay1 p w b (ix2 r q)) := by
  rw [← rowMax_apply reduces_S1024x2048_S1024 (k0_pay1 p w b) r]
  unfold k0_pay4
  generalize k0_pay1 p w b = L
  dsimp only
  generalize multiReduction .maximumf [1] S1024 L 0xFF800000#32 reduces_S1024x2048_S1024 (.inl rfl) rfl = M
  pointwise

/-- The updated sum of a row: the sum found, moved to the new maximum, plus the tile's exponentials. -/
theorem sum_apply (p : Vec Ideal S1024x32 .f32) (w : Vec Ideal S32x2048 .bf16) (b : Vec Ideal S1x2048 .f32)
    (u v : Vec Ideal S1024x1 .f32) (r : Fin 1024) :
    k0_pay5 p w b u v (ix2 r 0)
      = v (ix2 r 0) * Ideal.exp (u (ix2 r 0) - k0_pay4 p w b u (ix2 r 0))
        + ∑ q : Fin 2048, Ideal.exp (k0_pay1 p w b (ix2 r q) - k0_pay4 p w b u (ix2 r 0)) := by
  unfold k0_pay5
  pointwise

/-- The result at a row and column: the logit minus (maximum + logarithm of the sum). -/
theorem result_apply (p : Vec Ideal S1024x32 .f32) (w : Vec Ideal S32x2048 .bf16) (b : Vec Ideal S1x2048 .f32)
    (u v : Vec Ideal S1024x1 .f32) (r : Fin 1024) (q : Fin 2048) :
    k0_pay7 p w b u v (ix2 r q) = k0_pay1 p w b (ix2 r q) - (u (ix2 r 0) + Ideal.log (v (ix2 r 0))) := by
  unfold k0_pay7
  pointwise

end Cert.Proof

end
-- ==== Proof.InputBlocks.lean ====
/- The blocks of the three inputs that the kernel sees at a grid point, read at one entry; and the logits they give.
   `logitRow` is the row of logits as a function of the column number: the inner product of the averaged embedding with
   the column's weights, plus its bias; beyond the last column it is `-∞`, which is what the padding amounts to. -/
module

public import proofs.«01_k».proof.Proof.HostValues
public import proofs.«01_k».proof.Proof.Grid
public import proofs.«01_k».proof.Proof.TilePoint
public import Idealize.ShloMosaic.Lib.Pipeline.ValueKit

@[expose] public section

noncomputable section

namespace Cert.KernelIdeal.Value

open Cert.KernelIdeal Cert.KernelIdeal.Gen Idealize.ShloMosaic Idealize.ShloMosaic.TcCoe Idealize.SL.Sem

/-- The padded weights at an entry inside the table of weights. -/
theorem weights_inside (W : Vec Ideal S100000x32 .f32) (k : Fin 32) (n : Fin 100352) (h : n.val < 100000) :
    weights W (ix2 k n) = W (ix2 ⟨n.val, h⟩ k) := by
  unfold weights
  pointwise
  rw [dif_pos h]

/-- The padded bias at an entry inside the bias. -/
theorem biases_inside (b : Vec Ideal S100000 .f32) (n : Fin 100352) (h : n.val < 100000) :
    biases b (ix2 0 n) = b (ix1 ⟨n.val, h⟩) := by
  unfold biases
  pointwise
  rw [dif_pos h]

/-- The padded bias beyond it is `-∞`. -/
theorem biases_outside (b : Vec Ideal S100000 .f32) (n : Fin 100352) (h : ¬n.val < 100000) :
    biases b (ix2 0 n) = ⊥ := by
  unfold biases
  pointwise
  rw [dif_neg h, Cert.Proof.neg_inf_eq_bot]

/-- The logits of row `R`, as a function of the column number. -/
def logitRow (p : Vec Ideal S4096x32 .f32) (W : Vec Ideal S100000x32 .f32) (b : Vec Ideal S100000 .f32) (R : Fin 4096)
    (n : ℕ) : EReal :=
  if h : n < 100000 then (∑ k : Fin 32, p (ix2 R k) * W (ix2 ⟨n, h⟩ k)) + b (ix1 ⟨n, h⟩) else ⊥

/-- A padded column's logit: the sum of products with zero, plus `-∞`, is `-∞`; a column inside the table has its own. -/
theorem logitRow_eq (p : Vec Ideal S4096x32 .f32) (W : Vec Ideal S100000x32 .f32) (b : Vec Ideal S100000 .f32)
    (R : Fin 4096) (n : Fin 100352) :
    (∑ k : Fin 32, p (ix2 R k) * weights W (ix2 k n)) + biases b (ix2 0 n) = logitRow p W b R n.val := by
  unfold logitRow
  by_cases h : n.val < 100000
  · rw [dif_pos h, biases_inside b n h]
    simp only [weights_inside W _ n h]
  · rw [dif_neg h, biases_outside b n h, EReal.add_bot]

variable (m : (ℓ : Loc nD τ sig) → Buf (Elt Ideal) ℓ)

/-- The rows of a block lie inside the 4096 rows. -/
theorem row_lt (t : Fin cfg0.N) (r : Fin 1024) : 1024 * (t.val / 98) + r.val < 4096 := by
  have : cfg0.N = 392 := N_0
  have := t.isLt
  omega

/-- The columns of a block lie inside the 100352 padded columns. -/
theorem col_lt (t : Fin cfg0.N) (q : Fin 2048) : 2048 * (t.val % 49) + q.val < 100352 := by
  omega

/-- The block of averaged rows at point `t` starts at row `1024 (t / 98)`. -/
theorem block_pooled (c : Dev nD) (t : Fin cfg0.N) (r : Fin 1024) (k : Fin 32) :
    (iblk m c 0 t : Vec Ideal S1024x32 .f32) (ix2 r k)
      = pooled (m ((c : Thread nD τ).loc main_arg0)) (m ((c : Thread nD τ).loc main_arg1))
          (ix2 ⟨1024 * (t.val / 98) + r.val, row_lt t r⟩ k) := by
  rw [← launch_pooled m c]
  have hi := index_pooled t
  unfold iblk
  rw [View.read_apply]
  show V m c main_v3 _ = V m c main_v3 _
  congr 1
  funext a
  apply Fin.ext
  match a with
  | ⟨0, _⟩ => show win0_0.index t 0 * 1024 + 1 * r.val = 1024 * (t.val / 98) + r.val; rw [hi.1]; omega
  | ⟨1, _⟩ => show win0_0.index t 1 * 32 + 1 * k.val = k.val; rw [hi.2]; omega

/-- The block of weights at point `t` starts at column `2048 (t % 49)`. -/
theorem block_weights (c : Dev nD) (t : Fin cfg0.N) (k : Fin 32) (q : Fin 2048) :
    (iblk m c 1 t : Vec Ideal S32x2048 .bf16) (ix2 k q)
      = weights (m ((c : Thread nD τ).loc main_arg2)) (ix2 k ⟨2048 * (t.val % 49) + q.val, col_lt t q⟩) := by
  rw [← launch_weights m c]
  have hi := index_weights t
  unfold iblk
  rw [View.read_apply]
  show V m c main_v6 _ = V m c main_v6 _
  congr 1
  funext a
  apply Fin.ext
  match a with
  | ⟨0, _⟩ => show win0_1.index t 0 * 32 + 1 * k.val = k.val; rw [hi.1]; omega
  | ⟨1, _⟩ => show win0_1.index t 1 * 2048 + 1 * q.val = 2048 * (t.val % 49) + q.val; rw [hi.2]; omega

/-- The block of the bias at point `t` starts at column `2048 (t % 49)`. -/
theorem block_biases (c : Dev nD) (t : Fin cfg0.N) (q : Fin 2048) :
    (iblk m c 2 t : Vec Ideal S1x2048 .f32) (ix2 0 q)
      = biases (m ((c : Thread nD τ).loc main_arg3)) (ix2 0 ⟨2048 * (t.val % 49) + q.val, col_lt t q⟩) := by
  rw [← launch_biases m c]
  have hi := index_biases t
  unfold iblk
  rw [View.read_apply]
  show V m c main_v8 _ = V m c main_v8 _
  congr 1
  funext a
  apply Fin.ext
  match a with
  | ⟨0, _⟩ => show win0_2.index t 0 * 1 + 1 * 0 = 0; rw [hi.1]
  | ⟨1, _⟩ => show win0_2.index t 1 * 2048 + 1 * q.val = 2048 * (t.val % 49) + q.val; rw [hi.2]; omega

/-- The logits of global row `R`, from the arguments in memory. -/
def rowOf (c : Dev nD) (R : Fin 4096) : ℕ → EReal :=
  logitRow (pooled (m ((c : Thread nD τ).loc main_arg0)) (m ((c : Thread nD τ).loc main_arg1)))
    (m ((c : Thread nD τ).loc main_arg2)) (m ((c : Thread nD τ).loc main_arg3)) R

/-- The block of logits at point `t` is the corresponding piece of the rows of logits. -/
theorem block_logits (c : Dev nD) (t : Fin cfg0.N) (r : Fin 1024) (q : Fin 2048) :
    k0_pay1 (iblk m c 0 t) (iblk m c 1 t) (iblk m c 2 t) (ix2 r q)
      = rowOf m c ⟨1024 * (t.val / 98) + r.val, row_lt t r⟩ (2048 * (t.val % 49) + q.val) := by
  refine (Cert.Proof.logit_apply _ _ _ r q).trans ?_
  refine Eq.trans ?_ (logitRow_eq _ _ _ _ ⟨2048 * (t.val % 49) + q.val, col_lt t q⟩)
  exact congrArg₂ (· + ·) (Finset.sum_congr rfl fun k _ => congrArg₂ (· * ·) (block_pooled m c t r k) (block_weights m c t k q))
    (block_biases m c t q)

end Cert.KernelIdeal.Value

end
-- ==== Proof.Scratch.lean ====
/- What the two carried columns (running maximum, running sum) hold after every grid point: the maximum and the sum of
   exponentials of the columns seen so far in the row block — all of them once the first sweep is over. -/
module

public import proofs.«01_k».proof.Proof.Cases
public import proofs.«01_k».proof.Proof.InputBlocks

@[expose] public section

noncomputable section

namespace Cert.KernelIdeal.Value

open Cert.KernelIdeal Cert.KernelIdeal.Gen Idealize.ShloMosaic Idealize.ShloMosaic.TcCoe Idealize.SL.Sem
open Cert.Proof (top total)

variable (m : (ℓ : Loc nD τ sig) → Buf (Elt Ideal) ℓ)

/-- A block of logits, read in a row named by its number in the whole array. -/
theorem block_logits_row (c : Dev nD) (t : Fin cfg0.N) (r : Fin 1024) (R : Fin 4096) (hR : R.val = 1024 * (t.val / 98) + r.val)
    (q : Fin 2048) :
    k0_pay1 (iblk m c 0 t) (iblk m c 1 t) (iblk m c 2 t) (ix2 r q) = rowOf m c R (2048 * (t.val % 49) + q.val) := by
  obtain rfl : R = ⟨1024 * (t.val / 98) + r.val, row_lt t r⟩ := Fin.ext hR
  exact block_logits m c t r q

/-- Updating the maximum of the columns before a tile gives the maximum of the columns through it. -/
theorem step_max (c : Dev nD) (t : Fin cfg0.N) (r : Fin 1024) (R : Fin 4096) (hR : R.val = 1024 * (t.val / 98) + r.val)
    (u : Vec Ideal S1024x1 .f32) (hu : u (ix2 r 0) = top (rowOf m c R) (2048 * (t.val % 49))) :
    k0_pay4 (iblk m c 0 t) (iblk m c 1 t) (iblk m c 2 t) u (ix2 r 0)
      = top (rowOf m c R) (2048 * (t.val % 49) + 2048) := by
  refine (Cert.Proof.max_apply _ _ _ u r).trans ?_
  rw [hu]
  refine Eq.trans ?_ (Cert.Proof.top_add (rowOf m c R) (2048 * (t.val % 49)) 2048)
  exact congrArg (fun s => max _ s) (congrArg (Finset.univ.sup) (funext fun q => block_logits_row m c t r R hR q))

/-- Updating the sum of the columns before a tile gives the sum of the columns through it. -/
theorem step_sum (c : Dev nD) (t : Fin cfg0.N) (r : Fin 1024) (R : Fin 4096) (hR : R.val = 1024 * (t.val / 98) + r.val)
    (u v : Vec Ideal S1024x1 .f32) (hu : u (ix2 r 0) = top (rowOf m c R) (2048 * (t.val % 49)))
    (hv : v (ix2 r 0) = total (rowOf m c R) (2048 * (t.val % 49))) :
    k0_pay5 (iblk m c 0 t) (iblk m c 1 t) (iblk m c 2 t) u v (ix2 r 0)
      = total (rowOf m c R) (2048 * (t.val % 49) + 2048) := by
  refine (Cert.Proof.sum_apply _ _ _ u v r).trans ?_
  rw [step_max m c t r R hR u hu, hu, hv]
  refine Eq.trans ?_ (Cert.Proof.total_add (rowOf m c R) (2048 * (t.val % 49)) 2048)
  exact congrArg (fun s => _ + s) (Finset.sum_congr rfl fun q _ =>
    congrArg (fun x => Ideal.exp (x - _)) (block_logits_row m c t r R hR q))

/-- How many columns the scratch accounts for after point `n`. -/
def seen (n : ℕ) : ℕ := 2048 * min 49 (n % 98 + 1)

/-- After every point, the scratch holds the maximum and the sum of exponentials of the columns seen. -/
theorem scratch_after (c : Dev nD) : ∀ (n : ℕ) (h : n < cfg0.N) (r : Fin 1024) (R : Fin 4096),
    R.val = 1024 * (n / 98) + r.val →
      (outsAt0 m c n h).2.1 (ix2 r 0) = top (rowOf m c R) (seen n) ∧
      (outsAt0 m c n h).2.2 (ix2 r 0) = total (rowOf m c R) (seen n) := by
  intro n
  induction n with
  | zero =>
    intro h r R hR
    have hs : seen 0 = 2048 * ((⟨0, h⟩ : Fin cfg0.N).val % 49) + 2048 := rfl
    have hu : (k0_pay2 (F := Ideal)) (ix2 r 0) = top (rowOf m c R) (2048 * ((⟨0, h⟩ : Fin cfg0.N).val % 49)) :=
      (Cert.Proof.reset_max_apply r).trans (Cert.Proof.top_zero _).symm
    have hv : (k0_pay3 (F := Ideal)) (ix2 r 0) = total (rowOf m c R) (2048 * ((⟨0, h⟩ : Fin cfg0.N).val % 49)) :=
      (Cert.Proof.reset_sum_apply r).trans (Cert.Proof.total_zero _).symm
    have e0 : (⟨0, h⟩ : Fin cfg0.N).val / 49 % 2 = 0 := by show 0 / 49 % 2 = 0; norm_num
    have e1 : (⟨0, h⟩ : Fin cfg0.N).val % 49 = 0 := by show 0 % 49 = 0; norm_num
    have e2 : ¬(⟨0, h⟩ : Fin cfg0.N).val / 49 % 2 = 1 := by show ¬0 / 49 % 2 = 1; norm_num
    rw [outsAt0_A m c ⟨0, h⟩ e0 e1 e2]
    dsimp only
    rw [max_first, sum_first, hs]
    exact ⟨step_max m c ⟨0, h⟩ r R hR _ hu, step_sum m c ⟨0, h⟩ r R hR _ _ hu hv⟩
  | succ n ih =>
    intro h r R hR
    have hN : n + 1 < 392 := lt_of_lt_of_eq h N_0
    by_cases h0 : (n + 1) / 49 % 2 = 0
    · have h2 : ¬(n + 1) / 49 % 2 = 1 := by omega
      have hs : seen (n + 1) = 2048 * ((⟨n + 1, h⟩ : Fin cfg0.N).val % 49) + 2048 := by
        show 2048 * min 49 ((n + 1) % 98 + 1) = 2048 * ((n + 1) % 49) + 2048
        omega
      by_cases h1 : (n + 1) % 49 = 0
      · have hz : 2048 * ((⟨n + 1, h⟩ : Fin cfg0.N).val % 49) = 0 := by
          show 2048 * ((n + 1) % 49) = 0
          omega
        have hu : (k0_pay2 (F := Ideal)) (ix2 r 0) = top (rowOf m c R) (2048 * ((⟨n + 1, h⟩ : Fin cfg0.N).val % 49)) := by
          rw [hz]
          exact (Cert.Proof.reset_max_apply r).trans (Cert.Proof.top_zero _).symm
        have hv : (k0_pay3 (F := Ideal)) (ix2 r 0) = total (rowOf m c R) (2048 * ((⟨n + 1, h⟩ : Fin cfg0.N).val % 49)) := by
          rw [hz]
          exact (Cert.Proof.reset_sum_apply r).trans (Cert.Proof.total_zero _).symm
        rw [outsAt0_A m c ⟨n + 1, h⟩ h0 h1 h2]
        dsimp only
        rw [max_first, sum_first, hs]
        exact ⟨step_max m c ⟨n + 1, h⟩ r R hR _ hu, step_sum m c ⟨n + 1, h⟩ r R hR _ _ hu hv⟩
      · obtain ⟨hu, hv⟩ := ih (Nat.lt_of_succ_lt h) r R (by omega)
        have hp : seen n = 2048 * ((⟨n + 1, h⟩ : Fin cfg0.N).val % 49) := by
          show 2048 * min 49 (n % 98 + 1) = 2048 * ((n + 1) % 49)
          omega
        rw [hp] at hu hv
        rw [outsAt0_B m c ⟨n + 1, h⟩ h0 h1 h2]
        dsimp only
        rw [max_later, sum_later, hs]
        exact ⟨step_max m c ⟨n + 1, h⟩ r R hR _ hu, step_sum m c ⟨n + 1, h⟩ r R hR _ _ hu hv⟩
    · have h2 : (n + 1) / 49 % 2 = 1 := by omega
      have hs : seen (n + 1) = seen n := by
        show 2048 * min 49 ((n + 1) % 98 + 1) = 2048 * min 49 (n % 98 + 1)
        omega
      rw [hs, outsAt0_C m c ⟨n + 1, h⟩ h0 h2]
      exact ih (Nat.lt_of_succ_lt h) r R (by omega)

/-- The maximum and the sum of a row over the padded columns are those over the columns of the table. -/
theorem top_padded (c : Dev nD) (R : Fin 4096) : top (rowOf m c R) 100352 = top (rowOf m c R) 100000 :=
  Cert.Proof.top_pad _ 100000 352 fun k hk => dif_neg (Nat.not_lt.mpr hk)

/-- The padded columns add nothing to the sum of exponentials of a row. -/
theorem total_padded (c : Dev nD) (R : Fin 4096) : total (rowOf m c R) 100352 = total (rowOf m c R) 100000 :=
  Cert.Proof.total_pad _ 100000 352 fun k hk => dif_neg (Nat.not_lt.mpr hk)

/-- The result of a row at a column: its logit minus (maximum + logarithm of the sum of exponentials). -/
def resultAt (c : Dev nD) (R : Fin 4096) (n : ℕ) : EReal :=
  rowOf m c R n - (top (rowOf m c R) 100000 + Ideal.log (total (rowOf m c R) 100000))

/-- What a point of the second sweep writes: the results of its rows and columns. -/
theorem block_result (c : Dev nD) (t : Fin cfg0.N) (h : t.val / 49 % 2 = 1) (r : Fin 1024) (R : Fin 4096)
    (hR : R.val = 1024 * (t.val / 98) + r.val) (q : Fin 2048) :
    (outsAt0 m c t.val t.isLt).1 (ix2 r q) = resultAt m c R (2048 * (t.val % 49) + q.val) := by
  have hN : t.val < 392 := lt_of_lt_of_eq t.isLt N_0
  rw [outsAt0_C m c t (by omega) h]
  dsimp only
  rw [block_written]
  refine (Cert.Proof.result_apply _ _ _ _ _ r q).trans ?_
  obtain ⟨hu, hv⟩ := scratch_after m c (t.val - 1) (Nat.lt_of_le_of_lt (Nat.sub_le _ _) t.isLt) r R (by omega)
  have hp : seen (t.val - 1) = 100352 := by
    show 2048 * min 49 ((t.val - 1) % 98 + 1) = 100352
    omega
  rw [hp] at hu hv
  rw [block_logits_row m c t r R hR q, hu, hv, top_padded, total_padded, resultAt]

end Cert.KernelIdeal.Value

end
-- ==== Proof.ResultArray.lean ====
/- The kernel's result array, whole: at row `R` and column `n` the logit minus (maximum + logarithm of the sum of
   exponentials) of the row. The blocks written back in the second sweep cover the array; the last one of each row
   block is cut at the array's end. -/
module

public import proofs.«01_k».proof.Proof.Scratch

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The result array. -/
def resultArray (c : Dev nD) : Vec Ideal S4096x100000 .f32 := fun i => resultAt m c (i 0) (i 1).val

/-- What a flushing point writes back is its block of the result array. -/
theorem flushed_eq (c : Dev nD) (t : Fin cfg0.N) (hf : (cfg0.win 3).flush t = true) :
    (dats m 0 c).flushed 3 t = ((cfg0.win 3).blk t).view.read (Elt Ideal) (resultArray m c) := by
  have h : t.val / 49 % 2 = 1 := (flush_iff t).mp hf
  have hi := index_result t h
  rw [flushed3]
  funext y
  rw [View.read_apply]
  have hy0 : (y 0).val < 1024 := lt_of_lt_of_le (y 0).isLt (win0_3.xsize_le (grid0.coords t) 0)
  have hy1 : (y 1).val < 2048 := lt_of_lt_of_le (y 1).isLt (win0_3.xsize_le (grid0.coords t) 1)
  have hx : win0_3.xinj (grid0.coords t) y = ix2 (⟨(y 0).val, hy0⟩ : Fin 1024) (⟨(y 1).val, hy1⟩ : Fin 2048) := by
    funext a
    match a with
    | ⟨0, _⟩ => rfl
    | ⟨1, _⟩ => rfl
  show (outsAt0 m c t.val t.isLt).1 (win0_3.xinj (grid0.coords t) y) = resultArray m c _
  rw [hx]
  refine (block_result m c t h ⟨(y 0).val, hy0⟩ _ ?_ ⟨(y 1).val, hy1⟩).trans (congrArg (resultAt m c _) ?_)
  · show win0_3.index t 0 * 1024 + 1 * (y 0).val = 1024 * (t.val / 98) + (y 0).val
    rw [hi.1]; omega
  · show 2048 * (t.val % 49) + (y 1).val = win0_3.index t 1 * 2048 + 1 * (y 1).val
    rw [hi.2]; omega

/-- An entry whose row block and column tile are those of a point of the second sweep lies in the point's block. -/
theorem mem_block (t : Fin cfg0.N) (h : t.val / 49 % 2 = 1) (i : S4096x100000.Idx)
    (hq : t.val / 98 = (i 0).val / 1024) (hr : t.val % 49 = (i 1).val / 2048) :
    i ∈ ((cfg0.win 3).blk t).view.set := by
  have h0 : (i 0).val < 4096 := (i 0).isLt
  have h1 : (i 1).val < 100000 := (i 1).isLt
  obtain ⟨hi0, hi1⟩ := index_result t h
  obtain ⟨he0, he1⟩ := extent_result t h
  show i ∈ ((View.whole main_v9).slice (win0_3.rect t)).set
  rw [View.set_slice_whole, Rect.mem_set_unit]
  intro a
  match a with
  | ⟨0, _⟩ =>
    show win0_3.index t 0 * 1024 ≤ (i 0).val ∧ (i 0).val < win0_3.index t 0 * 1024 + win0_3.xsize (grid0.coords t) 0
    rw [hi0, he0]; omega
  | ⟨1, _⟩ =>
    show win0_3.index t 1 * 2048 ≤ (i 1).val ∧ (i 1).val < win0_3.index t 1 * 2048 + win0_3.xsize (grid0.coords t) 1
    rw [hi1, he1]; split <;> omega

/-- Every entry of the result lies in the block of the point whose row block and column tile it has. -/
theorem covered (i : S4096x100000.Idx) :
    ∃ t : Fin cfg0.N, (cfg0.win 3).flush t = true ∧ i ∈ ((cfg0.win 3).blk t).view.set := by
  have h0 : (i 0).val < 4096 := (i 0).isLt
  have h1 : (i 1).val < 100000 := (i 1).isLt
  have ht : 98 * ((i 0).val / 1024) + 49 + (i 1).val / 2048 < cfg0.N := by
    rw [show cfg0.N = 392 from N_0]
    omega
  have h : (98 * ((i 0).val / 1024) + 49 + (i 1).val / 2048) / 49 % 2 = 1 := by omega
  exact ⟨⟨98 * ((i 0).val / 1024) + 49 + (i 1).val / 2048, ht⟩, (flush_iff _).mpr h,
    mem_block ⟨98 * ((i 0).val / 1024) + 49 + (i 1).val / 2048, ht⟩ h i
      (by show (98 * ((i 0).val / 1024) + 49 + (i 1).val / 2048) / 98 = (i 0).val / 1024; omega)
      (by show (98 * ((i 0).val / 1024) + 49 + (i 1).val / 2048) % 49 = (i 1).val / 2048; omega)⟩

/-- After the run, the result array is `resultArray`. -/
theorem final_array (c : Dev nD) : (dats m 0 c).arrAt 3 cfg0.N = resultArray m c :=
  (dats m 0 c).arrAt_eq_of_cover 3 (resultArray m c) (flushed_eq m c) covered

/-- The kernel's run: the result array at `resultArray`, the arguments unchanged. -/
theorem run_result (ρ : Dev nD → PrngReg) :
    θ_run defs (onTc (τ := τ) (main (F := Ideal))) ⟨m, fun _ => 0, ρ⟩ fun r => ∀ c : Dev nD,
      r.2.mem ((c : Thread nD τ).loc main_v9) = resultArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_array m c), (h c).2⟩) (run_blocks m ρ)

end Cert.KernelIdeal.Value

end
-- ==== Proof.HostRows.lean ====
/- The host's reductions along a row, for an array of any size: the maximum and the sum. -/
module

public import proofs.«01_k».proof.Proof.OnlineSoftmax
public import proofs.«01_k».proof.Proof.Patterns
public import Idealize.ShloMosaic.Lib.Pointwise

@[expose] public section

noncomputable section

namespace Cert.Proof

open Idealize.ShloMosaic

/-- The host's maximum over the columns, started at `-∞`. -/
theorem hostMax_apply {m n : ℕ} (h : Shape.ReducesTo ⟨2, ![m, n]⟩ [1] ⟨1, ![m]⟩) (hs : 0 < (⟨0, ![]⟩ : Shape).numel)
    (v : FVec Ideal ⟨2, ![m, n]⟩ .f32) (r : Fin m) :
    Host.reduce FloatOps.maximumf v (constant (F := Ideal) ⟨0, ![]⟩ .f32 0xFF800000#32) h hs (ix1 r)
      = Finset.univ.sup fun q : Fin n => v (ix2 r q) := by
  pointwise
  rw [neg_inf_eq_bot, fold_max_eq_sup]

/-- The host's sum over the columns, started at zero. -/
theorem hostSum_apply {m n : ℕ} (h : Shape.ReducesTo ⟨2, ![m, n]⟩ [1] ⟨1, ![m]⟩) (hs : 0 < (⟨0, ![]⟩ : Shape).numel)
    (v : FVec Ideal ⟨2, ![m, n]⟩ .f32) (r : Fin m) :
    Host.reduceAdd v (constant (F := Ideal) ⟨0, ![]⟩ .f32 0x00000000#32) h hs (ix1 r) = ∑ q : Fin n, v (ix2 r q) := by
  pointwise

end Cert.Proof

end
-- ==== Proof.RefLogSumExp.lean ====
/- The reference that writes the normalizer as one number: its result read at one entry is the logit minus (maximum +
   logarithm of the sum of exponentials) of the row, on the same rows of logits as the kernel's. -/
module

public import proofs.«01_k».proof.Proof.HostRows
public import proofs.«01_k».proof.Proof.InputBlocks
public import proofs.«01_k».proof.Proof.Gen.LogSumExpIdeal
public import proofs.«01_k».proof.Proof.Gen.LogSumExpIdeal.Run

@[expose] public section

noncomputable section

namespace Cert.LogSumExpIdeal.Value

open Cert.LogSumExpIdeal Cert.LogSumExpIdeal.Gen Idealize.ShloMosaic Idealize.ShloMosaic.TcCoe Idealize.SL.Sem
open Cert.KernelIdeal.Value (pooled logitRow)
open Cert.Proof (top total)

/-- The array of logits: averaged rows times transposed weights, plus the bias in every row. -/
def logits (p : Vec Ideal S4096x32 .f32) (W : Vec Ideal S100000x32 .f32) (b : Vec Ideal S100000 .f32) :
    FVec Ideal S4096x100000 .f32 :=
  addf (Host.dotGeneral (φ₁ := .f32) (φ₂ := .f32) dot_S4096x32_S32x100000_S4096x100000_1_0_0_1_n_n none p
      (transpose S32x100000 [1, 0] W transposes_S100000x32_S32x100000_1_0))
    (broadcastInDim S4096x100000 ![0, 1] bcast_S1x100000_S4096x100000_0_1 (broadcastInDim S1x100000 ![1] bcast_S100000_S1x100000_1 b))

/-- The logits at an entry. -/
theorem logits_apply (p : Vec Ideal S4096x32 .f32) (W : Vec Ideal S100000x32 .f32) (b : Vec Ideal S100000 .f32)
    (R : Fin 4096) (n : Fin 100000) : logits p W b (ix2 R n) = logitRow p W b R n.val := by
  unfold logitRow
  rw [dif_pos n.isLt]
  unfold logits
  pointwise

/-- The maximum of each row. -/
def rowMax (L : FVec Ideal S4096x100000 .f32) : FVec Ideal S4096 .f32 :=
  Host.reduce FloatOps.maximumf L (constant S_ .f32 0xFF800000#32) reducesTo_S4096x100000_S4096_d1 h_S_

/-- The sum of each row. -/
def rowSum (E : FVec Ideal S4096x100000 .f32) : FVec Ideal S4096 .f32 :=
  Host.reduceAdd E (constant S_ .f32 0x00000000#32) reducesTo_S4096x100000_S4096_d1 h_S_

/-- Each row's entries minus the row's number. -/
def minusRow (L : FVec Ideal S4096x100000 .f32) (M : FVec Ideal S4096 .f32) : FVec Ideal S4096x100000 .f32 :=
  subf L (broadcastInDim S4096x100000 ![0, 1] bcast_S4096x1_S4096x100000_0_1 (broadcastInDim S4096x1 ![0] bcast_S4096_S4096x1_0 M))

/-- Entry (R, n): the array's entry minus row R's number. -/
theorem minusRow_apply (L : FVec Ideal S4096x100000 .f32) (M : FVec Ideal S4096 .f32) (R : Fin 4096) (n : Fin 100000) :
    minusRow L M (ix2 R n) = L (ix2 R n) - M (ix1 R) := by
  unfold minusRow
  pointwise

/-- The exponentials of an array, entry by entry. -/
theorem hostExp_apply (L : FVec Ideal S4096x100000 .f32) (R : Fin 4096) (n : Fin 100000) :
    Host.exp L (ix2 R n) = Ideal.exp (L (ix2 R n)) := by
  pointwise

/-- The maximum of a row of logits is `top` over the 100000 columns. -/
theorem rowMax_apply (L : FVec Ideal S4096x100000 .f32) (x : ℕ → EReal) (R : Fin 4096) (hx : ∀ n : Fin 100000, L (ix2 R n) = x n.val) :
    rowMax L (ix1 R) = top x 100000 := by
  unfold rowMax
  rw [Cert.Proof.top_eq_univ]
  exact (Cert.Proof.hostMax_apply _ _ L R).trans (congrArg Finset.univ.sup (funext hx))

/-- The sum of the exponentials of a row, relative to its maximum, is `total` over the 100000 columns. -/
theorem rowSum_apply (L : FVec Ideal S4096x100000 .f32) (M : FVec Ideal S4096 .f32) (x : ℕ → EReal) (R : Fin 4096)
    (hx : ∀ n : Fin 100000, L (ix2 R n) = x n.val) (hM : M (ix1 R) = top x 100000) :
    rowSum (Host.exp (minusRow L M)) (ix1 R) = total x 100000 := by
  unfold rowSum total
  refine (Cert.Proof.hostSum_apply _ _ _ R).trans ?_
  rw [Finset.sum_range (fun k => Ideal.exp (x k - top x 100000))]
  exact Finset.sum_congr rfl fun n _ => by rw [hostExp_apply, minusRow_apply, hx, hM]

/-- The array minus (maximum + logarithm of the sum). -/
def minusNormalizer (L : FVec Ideal S4096x100000 .f32) (M S : FVec Ideal S4096 .f32) : FVec Ideal S4096x100000 .f32 :=
  subf L (broadcastInDim S4096x100000 ![0, 1] bcast_S4096x1_S4096x100000_0_1
    (addf (broadcastInDim S4096x1 ![0] bcast_S4096_S4096x1_0 M) (Host.log (broadcastInDim S4096x1 ![0] bcast_S4096_S4096x1_0 S))))

/-- Entry (R, n): the array's entry minus row R's normalizer. -/
theorem minusNormalizer_apply (L : FVec Ideal S4096x100000 .f32) (M S : FVec Ideal S4096 .f32) (R : Fin 4096) (n : Fin 100000) :
    minusNormalizer L M S (ix2 R n) = L (ix2 R n) - (M (ix1 R) + Ideal.log (S (ix1 R))) := by
  unfold minusNormalizer
  pointwise

variable (m : (ℓ : Loc nD τ sig) → Buf (Elt Ideal) ℓ)

/-- The logits of the run's arguments. -/
def runLogits (c : Dev nD) : FVec Ideal S4096x100000 .f32 :=
  logits (pooled (m ((c.tc : Thread nD τ).loc main_arg0)) (m ((c.tc : Thread nD τ).loc main_arg1)))
    (m ((c.tc : Thread nD τ).loc main_arg2)) (m ((c.tc : Thread nD τ).loc main_arg3))

set_option maxRecDepth 8192 in
/-- The run's result, put together from the pieces above. -/
theorem result_eq (c : Dev nD) :
    res_main_v19 m c = minusNormalizer (runLogits m c) (rowMax (runLogits m c))
      (rowSum (Host.exp (minusRow (runLogits m c) (rowMax (runLogits m c))))) := by
  unfold res_main_v19 minusNormalizer rowSum minusRow rowMax
  rfl

/-- The result at an entry, for rows of logits `x`. -/
theorem result_apply (c : Dev nD) (x : ℕ → EReal) (R : Fin 4096) (n : Fin 100000)
    (hx : ∀ n : Fin 100000, runLogits m c (ix2 R n) = x n.val) :
    res_main_v19 m c (ix2 R n) = x n.val - (top x 100000 + Ideal.log (total x 100000)) := by
  rw [result_eq]
  have hM := rowMax_apply (runLogits m c) x R hx
  rw [minusNormalizer_apply, rowSum_apply _ _ x R hx hM, hM, hx]

end Cert.LogSumExpIdeal.Value

end
-- ==== Proof.RefLogSoftmax.lean ====
/- The reference as the problem gives it: its result read at one entry is (logit - maximum) - logarithm of the sum of
   exponentials of the row, on the same rows of logits as the kernel's. -/
module

public import proofs.«01_k».proof.Proof.RefLogSumExp
public import proofs.«01_k».proof.Proof.Gen.ReferenceIdeal
public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe Idealize.SL.Sem
open Cert.KernelIdeal.Value (pooled logitRow)
open Cert.LogSumExpIdeal.Value (logits rowMax rowSum minusRow rowMax_apply rowSum_apply minusRow_apply)
open Cert.Proof (top total)

/-- The larger of `-∞` and each entry: the entries themselves. -/
def atLeastBot (M : FVec Ideal S4096 .f32) : FVec Ideal S4096 .f32 :=
  maximumf (broadcastInDim S4096 ![] bcast_S_S4096 (constant S_ .f32 0xFF800000#32)) M

/-- Taking the larger of `-∞` and an entry changes nothing. -/
theorem atLeastBot_apply (M : FVec Ideal S4096 .f32) (R : Fin 4096) : atLeastBot M (ix1 R) = M (ix1 R) := by
  unfold atLeastBot
  pointwise
  rw [Cert.Proof.neg_inf_eq_bot]
  exact max_eq_right bot_le

/-- An array minus the logarithm of each row's number. -/
def minusLog (D : FVec Ideal S4096x100000 .f32) (S : FVec Ideal S4096 .f32) : FVec Ideal S4096x100000 .f32 :=
  subf D (broadcastInDim S4096x100000 ![0, 1] bcast_S4096x1_S4096x100000_0_1
    (Host.log (broadcastInDim S4096x1 ![0] bcast_S4096_S4096x1_0 S)))

/-- Entry (R, n): the array's entry minus the logarithm of row R's number. -/
theorem minusLog_apply (D : FVec Ideal S4096x100000 .f32) (S : FVec Ideal S4096 .f32) (R : Fin 4096) (n : Fin 100000) :
    minusLog D S (ix2 R n) = D (ix2 R n) - Ideal.log (S (ix1 R)) := by
  unfold minusLog
  pointwise

variable (m : (ℓ : Loc nD τ sig) → Buf (Elt Ideal) ℓ)

/-- The logits of the run's arguments. -/
def runLogits (c : Dev nD) : FVec Ideal S4096x100000 .f32 :=
  logits (pooled (m ((c.tc : Thread nD τ).loc main_arg0)) (m ((c.tc : Thread nD τ).loc main_arg1)))
    (m ((c.tc : Thread nD τ).loc main_arg2)) (m ((c.tc : Thread nD τ).loc main_arg3))

set_option maxRecDepth 8192 in
/-- The run's result, put together from the pieces above. -/
theorem result_eq (c : Dev nD) :
    res_main_v9 m c = minusLog (minusRow (runLogits m c) (atLeastBot (rowMax (runLogits m c))))
      (rowSum (Host.exp (minusRow (runLogits m c) (atLeastBot (rowMax (runLogits m c)))))) := by
  unfold res_main_v9 minusLog rowSum minusRow atLeastBot rowMax
  rfl

/-- The result at an entry, for rows of logits `x`. -/
theorem result_apply (c : Dev nD) (x : ℕ → EReal) (R : Fin 4096) (n : Fin 100000)
    (hx : ∀ n : Fin 100000, runLogits m c (ix2 R n) = x n.val) :
    res_main_v9 m c (ix2 R n) = x n.val - top x 100000 - Ideal.log (total x 100000) := by
  rw [result_eq]
  have hM : atLeastBot (rowMax (runLogits m c)) (ix1 R) = top x 100000 :=
    (atLeastBot_apply _ R).trans (rowMax_apply (runLogits m c) x R hx)
  rw [minusLog_apply, rowSum_apply _ _ x R hx hM, minusRow_apply, hM, hx]

end Cert.ReferenceIdeal.Value

end
-- ==== Proof.Finite.lean ====
/- What the precondition gives: every index names a row of the table and no float argument is infinite, so the averaged
   rows, the logits and the maximum of every row of logits are real numbers. -/
module

public import proofs.«01_k».proof.Pre_finite_in_range
public import proofs.«01_k».proof.Proof.Gen.Pre_finite_in_range
public import proofs.«01_k».proof.Proof.InputBlocks
public import Idealize.ShloMosaic.Lib.WordCmp
public import Idealize.ShloMosaic.Lib.Affine

@[expose] public section

noncomputable section

namespace Cert.KernelIdeal.Value

open Cert.KernelIdeal Cert.KernelIdeal.Gen Idealize.ShloMosaic Idealize.ShloMosaic.TcCoe Idealize.SL.Sem
open Cert.Proof (top total)
open Idealize.ShloMosaic.WordCmp

/-- The extended real is a real number. -/
def IsReal (x : EReal) : Prop := ∃ r : ℝ, x = (r : EReal)

/-- A sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type*} (s : Finset ι) {f : ι → EReal} (h : ∀ k ∈ s, IsReal (f k)) : IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- A value that is neither infinity is a real number. -/
theorem isReal_of_ends {x : EReal} (h : x ≠ ⊤) (h' : x ≠ ⊥) : IsReal x :=
  ⟨x.toReal, (EReal.coe_toReal h h').symm⟩

/-- The maximum of a row of real numbers is a real number. -/
theorem top_isReal (x : ℕ → EReal) (n : ℕ) (hn : 0 < n) (h : ∀ k < n, IsReal (x k)) : IsReal (top x n) := by
  have hmem : top x n ∈ (Finset.range n).image x := by
    obtain ⟨k, hk, e⟩ := Finset.exists_mem_eq_sup (Finset.range n) ⟨0, Finset.mem_range.mpr hn⟩ x
    exact Finset.mem_image.mpr ⟨k, hk, e.symm⟩
  obtain ⟨k, hk, e⟩ := Finset.mem_image.mp hmem
  rw [← e]
  exact h k (Finset.mem_range.mp hk)

/-- The entries of an array pass the test "absolute value below `+∞`" only where they are real numbers. -/
theorem isReal_of_test {s : Shape} (v : FVec Ideal s .f32) (i : s.Idx)
    (hb : (⟨0, ![]⟩ : Shape).BroadcastsInDim s (![] : Fin 0 → Fin s.rank))
    (h : cmpf .olt (Host.absf v) (broadcastInDim s ![] hb (constant ⟨0, ![]⟩ .f32 0x7F800000#32)) i = 1#1) :
    IsReal (v i) := by
  pointwise at h
  rw [Cert.Proof.pos_inf_eq_top] at h
  have h' : max (v i) (-(v i)) < ⊤ := of_decide_eq_true ((ofBool_eq_one_iff _).mp h)
  refine isReal_of_ends (fun e => ?_) (fun e => ?_)
  · rw [e] at h'
    exact absurd h' (by simp)
  · rw [e] at h'
    exact absurd h' (by simp)

/-- A word that is not negative is kept where a negative one would be replaced. -/
theorem select_row {α : Type} (x : BitVec 32) {a b : α} (h : 0 ≤ x.toInt) :
    Scalar.select (IntOp.cmpi .slt x 0#32) a b = b := by
  have e : IntOp.cmpi .slt x 0#32 = 0#1 := by
    rw [cmpi_slt_eq, show (0#32 : BitVec 32).toInt = 0 by decide, decide_eq_false (not_lt.mpr h)]
    rfl
  rw [e]
  rfl

/-- A word that is not negative passes the test "at least 0". -/
theorem at_least_zero (x : BitVec 32) (h : 0 ≤ x.toInt) : IntOp.cmpi .sge x 0#32 = 1#1 := by
  rw [cmpi_sge_eq, show (0#32 : BitVec 32).toInt = 0 by decide, decide_eq_true h]
  rfl

/-- A word below 100000 passes the test "at most 99999". -/
theorem at_most_last (x : BitVec 32) (h : x.toInt < 100000) : IntOp.cmpi .sle x 99999#32 = 1#1 := by
  rw [cmpi_sle_eq, show (99999#32 : BitVec 32).toInt = 99999 by decide, decide_eq_true (by omega)]
  rfl

/-- The precondition's test of the indices, read at one of them. -/
theorem range_of_test (ids : Vec Ideal S4096x20 .i32) (i : S4096x20.Idx) (hb : (⟨0, ![]⟩ : Shape).BroadcastsInDim S4096x20
      (![] : Fin 0 → Fin S4096x20.rank))
    (h : andi (cmpi .sge ids (broadcastInDim S4096x20 ![] hb (constantI ⟨0, ![]⟩ 32 0#32)))
      (cmpi .slt ids (broadcastInDim S4096x20 ![] hb (constantI ⟨0, ![]⟩ 32 100000#32))) i = 1#1) :
    0 ≤ (ids i).toInt ∧ (ids i).toInt < 100000 := by
  pointwise at h
  rw [IntOp.andi_eq_one] at h
  exact ⟨of_decide_eq_true ((ofBool_eq_one_iff _).mp ((cmpi_sge_eq _ _).symm.trans h.1)),
    of_decide_eq_true ((ofBool_eq_one_iff _).mp ((cmpi_slt_eq _ _).symm.trans h.2))⟩

/-- An index in the range passes the table's own test of the row number. -/
theorem inTable_apply (ids : Vec Ideal S4096x20 .i32) (R : Fin 4096) (j : Fin 20)
    (h0 : 0 ≤ (ids (ix2 R j)).toInt) (h1 : (ids (ix2 R j)).toInt < 100000) :
    inTable (F := Ideal) ids (ix2 R j) = 1#1 := by
  unfold inTable rowNumber
  pointwise
  rw [select_row _ h0, at_least_zero _ h0, at_most_last _ h1]
  rw [Finset.univ_unique, Finset.fold_singleton]
  decide

/-- A gathered entry is an entry of the table. -/
theorem gather_mem (table : Vec Ideal S100000x32 .f32) (rows : Vec Ideal S4096x20x1 .i32) (i : S4096x20x32.Idx) :
    ∃ j, Host.gather gather_S100000x32_S4096x20x1_S4096x20x32_2_0_n_n_0_2_132 table rows i = table j :=
  ⟨_, rfl⟩

/-- The embedding rows taken are real numbers. -/
theorem taken_isReal (ids : Vec Ideal S4096x20 .i32) (table : Vec Ideal S100000x32 .f32) (ht : ∀ j, IsReal (table j))
    (R : Fin 4096) (j : Fin 20) (k : Fin 32) (hm : inTable (F := Ideal) ids (ix2 R j) = 1#1) :
    IsReal (taken ids table (ix3 R j k)) := by
  unfold taken
  generalize inTable (F := Ideal) ids = M at hm
  obtain ⟨i, hi⟩ := gather_mem table (rowNumber (F := Ideal) ids) (ix3 R j k)
  generalize Host.gather gather_S100000x32_S4096x20x1_S4096x20x32_2_0_n_n_0_2_132 table (rowNumber (F := Ideal) ids) = G at hi
  pointwise
  rw [hm, hi]
  exact ht i

/-- The averaged rows are real numbers. -/
theorem pooled_isReal (ids : Vec Ideal S4096x20 .i32) (table : Vec Ideal S100000x32 .f32)
    (ht : ∀ R j k, IsReal (taken ids table (ix3 R j k))) (R : Fin 4096) (k : Fin 32) :
    IsReal (pooled ids table (ix2 R k)) := by
  unfold pooled
  generalize taken ids table = T at ht
  pointwise
  rw [Cert.Proof.twenty_eq, Ideal.div_coe (by norm_num : (20 : ℝ) ≠ 0)]
  exact (IsReal.sum _ fun j _ => ht R j k).mul ⟨_, rfl⟩

/-- The logits of a row are real numbers. -/
theorem logitRow_isReal (p : Vec Ideal S4096x32 .f32) (W : Vec Ideal S100000x32 .f32) (b : Vec Ideal S100000 .f32)
    (R : Fin 4096) (hp : ∀ k, IsReal (p (ix2 R k))) (hW : ∀ j, IsReal (W j)) (hb : ∀ j, IsReal (b j)) (n : ℕ)
    (hn : n < 100000) : IsReal (logitRow p W b R n) := by
  unfold logitRow
  rw [dif_pos hn]
  exact (IsReal.sum _ fun k _ => (hp k).mul (hW _)).add (hb _)

variable (m : (ℓ : Loc nD τ sig) → Buf (Elt Ideal) ℓ)

/-- Under the precondition every logit of the run is a real number. -/
theorem rowOf_isReal (c : Dev nD)
    (h : (Cert.Pre_finite_in_range.fn (F := Ideal) (m ((c.tc : Thread nD τ).loc main_arg0))
        (m ((c.tc : Thread nD τ).loc main_arg1)) (m ((c.tc : Thread nD τ).loc main_arg2))
        (m ((c.tc : Thread nD τ).loc main_arg3))).1 = (fun _ => 1#1)
      ∧ (Cert.Pre_finite_in_range.fn (F := Ideal) (m ((c.tc : Thread nD τ).loc main_arg0))
        (m ((c.tc : Thread nD τ).loc main_arg1)) (m ((c.tc : Thread nD τ).loc main_arg2))
        (m ((c.tc : Thread nD τ).loc main_arg3))).2.1 = (fun _ => 1#1)
      ∧ (Cert.Pre_finite_in_range.fn (F := Ideal) (m ((c.tc : Thread nD τ).loc main_arg0))
        (m ((c.tc : Thread nD τ).loc main_arg1)) (m ((c.tc : Thread nD τ).loc main_arg2))
        (m ((c.tc : Thread nD τ).loc main_arg3))).2.2.1 = (fun _ => 1#1)
      ∧ (Cert.Pre_finite_in_range.fn (F := Ideal) (m ((c.tc : Thread nD τ).loc main_arg0))
        (m ((c.tc : Thread nD τ).loc main_arg1)) (m ((c.tc : Thread nD τ).loc main_arg2))
        (m ((c.tc : Thread nD τ).loc main_arg3))).2.2.2 = (fun _ => 1#1)) (R : Fin 4096) (n : ℕ) (hn : n < 100000) :
    IsReal (rowOf m c R n) := by
  obtain ⟨hi, ht, hW, hb⟩ := h
  have table (j) := isReal_of_test _ j _ (congrFun ht j)
  refine logitRow_isReal _ _ _ R (fun k => pooled_isReal _ _ (fun R' j k' => taken_isReal _ _ table R' j k' ?_) R k)
    (fun j => isReal_of_test _ j _ (congrFun hW j)) (fun j => isReal_of_test _ j _ (congrFun hb j)) n hn
  have range := range_of_test _ (ix2 R' j) _ (congrFun hi (ix2 R' j))
  exact inTable_apply _ R' j range.1 range.2

/-- Under it, a row's entry minus the maximum minus the logarithm is what the kernel writes. -/
theorem resultAt_of_real (c : Dev nD) (R : Fin 4096) (h : ∀ n < 100000, IsReal (rowOf m c R n)) (n : ℕ) :
    rowOf m c R n - top (rowOf m c R) 100000 - Ideal.log (total (rowOf m c R) 100000)
      = rowOf m c R n - (top (rowOf m c R) 100000 + Ideal.log (total (rowOf m c R) 100000)) := by
  obtain ⟨r, hr⟩ := top_isReal (rowOf m c R) 100000 (by norm_num) h
  rw [hr]
  exact Cert.Proof.sub_sub_real _ _ r

end Cert.KernelIdeal.Value

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.LogSumExpIdeal
public import proofs.«01_k».proof.Proof.Gen.LogSumExpIdeal.Run
public import proofs.«01_k».proof.Proof.Gen.Pre_finite_in_range
public import proofs.«01_k».proof.Proof.ResultArray
public import proofs.«01_k».proof.Proof.RefLogSumExp
public import proofs.«01_k».proof.Proof.RefLogSoftmax
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem
open Cert.KernelIdeal (S4096x100000)
open Cert.KernelIdeal.Value (resultArray resultAt rowOf)

/-- The side conditions of the programs' operations, as the generated modules prove them. -/
local instance kernelFacts : Cert.Kernel.Facts := Cert.Kernel.Gen.facts
local instance kernelIdealFacts : Cert.KernelIdeal.Facts := Cert.KernelIdeal.Gen.facts
local instance referenceFacts : Cert.ReferenceIdeal.Facts := Cert.ReferenceIdeal.Gen.facts
local instance logSumExpFacts : Cert.LogSumExpIdeal.Facts := Cert.LogSumExpIdeal.Gen.facts
local instance rangeFacts : Cert.Pre_finite_in_range.Facts := Cert.Pre_finite_in_range.Gen.facts

/-- The kernel as printed runs to the end, leaves its arguments unchanged and every counter at zero. -/
theorem frame_kernel : Cert.quiescent_Kernel := fun m ρ _ => Cert.Kernel.Gen.frame m ρ

/-- So does the kernel with its constant named. -/
theorem frame_kernel_ideal : Cert.quiescent_KernelIdeal := fun m ρ _ => Cert.KernelIdeal.Gen.frame m ρ

/-- The same where the precondition holds. -/
theorem frame_kernel_ideal_pre : Cert.quiescent_KernelIdeal_pre_finite_in_range :=
  fun m ρ _ => Cert.KernelIdeal.Gen.frame m ρ

/-- So does the reference: its run, read at the argument buffers; it has no counters. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The same where the precondition holds. -/
theorem frame_reference_pre : Cert.quiescent_ReferenceIdeal_pre_finite_in_range :=
  fun m ρ _ => frame_reference m ρ trivial

/-- So does the second reference. -/
theorem frame_log_sum_exp : Cert.quiescent_LogSumExpIdeal := fun m ρ _ =>
  (θ_run (Cert.LogSumExpIdeal.defs (F := Ideal)) _ _).mono (fun r h => ⟨fun c => (h c).2, sem_eq_zero_of_no_sems (by decide) r.2⟩)
    (Cert.LogSumExpIdeal.Value.run (F := Ideal) m ρ)

/-- The constant "neg" stands for the kernel's starting value of the running maximum: minus infinity. -/
theorem preserves : Cert.preserves_Kernel_KernelIdeal := by
  unfold Cert.preserves_Kernel_KernelIdeal
  exact IdealRules.named_const.statement Cert.KernelIdeal.κ "neg" .f32 0xF149F2CA#32 ⊥ rfl

section LogSumExp

variable (m : (ℓ : Loc Cert.KernelIdeal.nD Cert.KernelIdeal.τ Cert.KernelIdeal.sig) → Buf (Elt Ideal) ℓ)
  (m' : (ℓ : Loc Cert.LogSumExpIdeal.nD Cert.LogSumExpIdeal.τ Cert.LogSumExpIdeal.sig) → Buf (Elt Ideal) ℓ)

/-- From equal arguments, the second reference's logits are the rows the kernel works on. -/
theorem log_sum_exp_logits (c : Dev Cert.KernelIdeal.nD)
    (h0 : m' ((c.tc : Thread Cert.LogSumExpIdeal.nD Cert.LogSumExpIdeal.τ).loc Cert.LogSumExpIdeal.main_arg0)
      = m ((c.tc : Thread Cert.KernelIdeal.nD Cert.KernelIdeal.τ).loc Cert.KernelIdeal.main_arg0))
    (h1 : m' ((c.tc : Thread Cert.LogSumExpIdeal.nD Cert.LogSumExpIdeal.τ).loc Cert.LogSumExpIdeal.main_arg1)
      = m ((c.tc : Thread Cert.KernelIdeal.nD Cert.KernelIdeal.τ).loc Cert.KernelIdeal.main_arg1))
    (h2 : m' ((c.tc : Thread Cert.LogSumExpIdeal.nD Cert.LogSumExpIdeal.τ).loc Cert.LogSumExpIdeal.main_arg2)
      = m ((c.tc : Thread Cert.KernelIdeal.nD Cert.KernelIdeal.τ).loc Cert.KernelIdeal.main_arg2))
    (h3 : m' ((c.tc : Thread Cert.LogSumExpIdeal.nD Cert.LogSumExpIdeal.τ).loc Cert.LogSumExpIdeal.main_arg3)
      = m ((c.tc : Thread Cert.KernelIdeal.nD Cert.KernelIdeal.τ).loc Cert.KernelIdeal.main_arg3))
    (R : Fin 4096) (n : Fin 100000) :
    Cert.LogSumExpIdeal.Value.runLogits m' c (ix2 R n) = rowOf m c R n.val := by
  unfold Cert.LogSumExpIdeal.Value.runLogits rowOf
  rw [h0, h1, h2, h3]
  exact Cert.LogSumExpIdeal.Value.logits_apply _ _ _ R n

/-- From equal arguments, the second reference ends with the kernel's array. -/
theorem log_sum_exp_array (c : Dev Cert.KernelIdeal.nD)
    (h0 : m' ((c.tc : Thread Cert.LogSumExpIdeal.nD Cert.LogSumExpIdeal.τ).loc Cert.LogSumExpIdeal.main_arg0)
      = m ((c.tc : Thread Cert.KernelIdeal.nD Cert.KernelIdeal.τ).loc Cert.KernelIdeal.main_arg0))
    (h1 : m' ((c.tc : Thread Cert.LogSumExpIdeal.nD Cert.LogSumExpIdeal.τ).loc Cert.LogSumExpIdeal.main_arg1)
      = m ((c.tc : Thread Cert.KernelIdeal.nD Cert.KernelIdeal.τ).loc Cert.KernelIdeal.main_arg1))
    (h2 : m' ((c.tc : Thread Cert.LogSumExpIdeal.nD Cert.LogSumExpIdeal.τ).loc Cert.LogSumExpIdeal.main_arg2)
      = m ((c.tc : Thread Cert.KernelIdeal.nD Cert.KernelIdeal.τ).loc Cert.KernelIdeal.main_arg2))
    (h3 : m' ((c.tc : Thread Cert.LogSumExpIdeal.nD Cert.LogSumExpIdeal.τ).loc Cert.LogSumExpIdeal.main_arg3)
      = m ((c.tc : Thread Cert.KernelIdeal.nD Cert.KernelIdeal.τ).loc Cert.KernelIdeal.main_arg3)) :
    Cert.LogSumExpIdeal.Value.res_main_v19 m' c = resultArray m c := by
  funext i
  have e : i = ix2 (i 0 : Fin 4096) (i 1 : Fin 100000) := by
    funext d
    fin_cases d <;> rfl
  refine (congrArg (Cert.LogSumExpIdeal.Value.res_main_v19 m' c) e).trans ?_
  exact Cert.LogSumExpIdeal.Value.result_apply m' c (rowOf m c (i 0)) (i 0) (i 1)
    (fun n => log_sum_exp_logits m m' c h0 h1 h2 h3 (i 0) n)

end LogSumExp

/-- For all arguments, the kernel and the second reference end with equal results. -/
theorem algebraic_log_sum_exp : Cert.algebraic_KernelIdeal_LogSumExpIdeal := fun m g m' g' _ hargs =>
  ⟨fun c => resultArray m c, Cert.KernelIdeal.Value.run_result m g,
    (θ_run (Cert.LogSumExpIdeal.defs (F := Ideal)) _ _).mono
      (fun r h c => ⟨(h c).1.trans (log_sum_exp_array m m' c (hargs c).1 (hargs c).2.1 (hargs c).2.2.1 (hargs c).2.2.2), (h c).2⟩)
      (Cert.LogSumExpIdeal.Value.run (F := Ideal) m' g')⟩

section Reference

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal arguments, the reference's logits are the rows the kernel works on. -/
theorem reference_logits (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (R : Fin 4096) (n : Fin 100000) :
    Cert.ReferenceIdeal.Value.runLogits m' c (ix2 R n) = rowOf m c R n.val := by
  unfold Cert.ReferenceIdeal.Value.runLogits rowOf
  rw [h0, h1, h2, h3]
  exact Cert.LogSumExpIdeal.Value.logits_apply _ _ _ R n

/-- From equal arguments whose logits are real numbers, the reference ends with the kernel's array. -/
theorem reference_array (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (hr : ∀ R, ∀ n < 100000, Cert.KernelIdeal.Value.IsReal (rowOf m c R n)) :
    Cert.ReferenceIdeal.Value.res_main_v9 m' c = resultArray m c := by
  funext i
  have e : i = ix2 (i 0 : Fin 4096) (i 1 : Fin 100000) := by
    funext d
    fin_cases d <;> rfl
  refine (congrArg (Cert.ReferenceIdeal.Value.res_main_v9 m' c) e).trans ?_
  refine Eq.trans ?_ (Cert.KernelIdeal.Value.resultAt_of_real m c (i 0) (hr (i 0)) (i 1).val)
  exact Cert.ReferenceIdeal.Value.result_apply m' c (rowOf m c (i 0)) (i 0) (i 1)
    (fun n => reference_logits m m' c h0 h1 h2 h3 (i 0) n)

end Reference

/-- For finite arguments and indices inside the table, the kernel and the reference end with equal results. -/
theorem algebraic_reference : Cert.algebraic_KernelIdeal_ReferenceIdeal_pre_finite_in_range := fun m g m' g' hpre hargs =>
  ⟨fun c => resultArray m c, Cert.KernelIdeal.Value.run_result m g,
    (θ_run (Cert.ReferenceIdeal.defs (F := Ideal)) _ _).mono
      (fun r h c => ⟨(h c).1.trans (reference_array m m' c (hargs c).1 (hargs c).2.1 (hargs c).2.2.1 (hargs c).2.2.2
        (fun R n hn => Cert.KernelIdeal.Value.rowOf_isReal m c (hpre c) R n hn)), (h c).2⟩)
      (Cert.ReferenceIdeal.Value.run (F := Ideal) m' g')⟩

/-- The claims. -/
theorem claim : Cert.Claim := ⟨kernelFacts, kernelIdealFacts, referenceFacts, logSumExpFacts, rangeFacts, frame_kernel,
  frame_kernel_ideal, frame_kernel_ideal_pre, frame_reference, frame_reference_pre, frame_log_sum_exp, preserves,
  algebraic_reference, algebraic_log_sum_exp⟩

end Cert.Proof

end
